-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .bf16 0xF14A#16 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x2048x2048 : Shape := ⟨3, ![1, 2048, 2048]⟩
abbrev S1x2048x64 : Shape := ⟨3, ![1, 2048, 64]⟩
abbrev S1536x2048 : Shape := ⟨2, ![1536, 2048]⟩
abbrev S1536 : Shape := ⟨1, ![1536]⟩
abbrev S3072x1536 : Shape := ⟨2, ![3072, 1536]⟩
abbrev S576x2048 : Shape := ⟨2, ![576, 2048]⟩
abbrev S512 : Shape := ⟨1, ![512]⟩
abbrev S4096x512 : Shape := ⟨2, ![4096, 512]⟩
abbrev S2048x2048 : Shape := ⟨2, ![2048, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x64 : S_.BroadcastsInDim S1x2048x64 (![] : Fin 0 → Fin S1x2048x64.rank)
  reducesTo_S1x2048x64_S_d0_1_2 : S1x2048x64.ReducesTo [0, 1, 2] S_
  bcast_S_S1536x2048 : S_.BroadcastsInDim S1536x2048 (![] : Fin 0 → Fin S1536x2048.rank)
  reducesTo_S1536x2048_S_d0_1 : S1536x2048.ReducesTo [0, 1] S_
  bcast_S_S1536 : S_.BroadcastsInDim S1536 (![] : Fin 0 → Fin S1536.rank)
  reducesTo_S1536_S_d0 : S1536.ReducesTo [0] S_
  bcast_S_S3072x1536 : S_.BroadcastsInDim S3072x1536 (![] : Fin 0 → Fin S3072x1536.rank)
  reducesTo_S3072x1536_S_d0_1 : S3072x1536.ReducesTo [0, 1] S_
  bcast_S_S576x2048 : S_.BroadcastsInDim S576x2048 (![] : Fin 0 → Fin S576x2048.rank)
  reducesTo_S576x2048_S_d0_1 : S576x2048.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_

variable [Facts]

def fn_part2 {F : FTy → Type} [FloatOps F] (main_arg7 : FVec F S512 .f32) (main_arg8 : FVec F S4096x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S4096x512 .f32 := Host.absf main_arg8
  let main_cst_14 : FVec F S_ .f32 := constant S_ .f32 0x7F800000#32
  let main_v40 : FVec F S4096x512 .f32 := broadcastInDim S4096x512 ![] bcast_S_S4096x512 main_cst_14
  let main_v41 : IVec S4096x512 1 := cmpf .olt main_v39 main_v40
  let main_c_15 : IVec S_ 1 := constantI S_ 1 1#1
  let main_v42 : IVec S_ 1 := (fun x v => Host.reduce IntOp.andi x v reducesTo_S4096x512_S_d0_1 h_S_) main_v41 main_c_15
  let main_v43 : IVec S_ 1 := andi main_v38 main_v42
  main_v43

def fn_part1 {F : FTy → Type} [FloatOps F] (main_arg4 : FVec F S1536 .f32) (main_arg5 : FVec F S3072x1536 .f32) (main_arg6 : FVec F S576x2048 .f32) (main_arg7 : FVec F S512 .f32) (main_arg8 : FVec F S4096x512 .f32) (main_v13 : IVec S_ 1) (main_v16 : IVec S1536x2048 1) : IVec S_ 1 :=
  let main_c_5 : IVec S_ 1 := constantI S_ 1 1#1
  let main_v17 : IVec S_ 1 := (fun x v => Host.reduce IntOp.andi x v reducesTo_S1536x2048_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S3072x1536 .f32 := Host.absf main_arg5
  let main_cst_8 : FVec F S_ .f32 := constant S_ .f32 0x7F800000#32
  let main_v25 : FVec F S3072x1536 .f32 := broadcastInDim S3072x1536 ![] bcast_S_S3072x1536 main_cst_8
  let main_v26 : IVec S3072x1536 1 := cmpf .olt main_v24 main_v25
  let main_c_9 : IVec S_ 1 := constantI S_ 1 1#1
  let main_v27 : IVec S_ 1 := (fun x v => Host.reduce IntOp.andi x v reducesTo_S3072x1536_S_d0_1 h_S_) main_v26 main_c_9
  let main_v28 : IVec S_ 1 := andi main_v23 main_v27
  let main_v29 : FVec F S576x2048 .f32 := Host.absf main_arg6
  let main_cst_10 : FVec F S_ .f32 := constant S_ .f32 0x7F800000#32
  let main_v30 : FVec F S576x2048 .f32 := broadcastInDim S576x2048 ![] bcast_S_S576x2048 main_cst_10
  let main_v31 : IVec S576x2048 1 := cmpf .olt main_v29 main_v30
  let main_c_11 : IVec S_ 1 := constantI S_ 1 1#1
  let main_v32 : IVec S_ 1 := (fun x v => Host.reduce IntOp.andi x v reducesTo_S576x2048_S_d0_1 h_S_) main_v31 main_c_11
  let main_v33 : IVec S_ 1 := andi main_v28 main_v32
  fn_part2 (F := F) main_arg7 main_arg8 main_v33

def fn {F : FTy → Type} [FloatOps F] (main_arg0 : FVec F S1x2048x2048 .f32) (main_arg1 : FVec F S1x2048x64 .f32) (main_arg2 : FVec F S1x2048x64 .f32) (main_arg3 : FVec F S1536x2048 .f32) (main_arg4 : FVec F S1536 .f32) (main_arg5 : FVec F S3072x1536 .f32) (main_arg6 : FVec F S576x2048 .f32) (main_arg7 : FVec F S512 .f32) (main_arg8 : FVec F S4096x512 .f32) (main_arg9 : FVec F S2048x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x64 .f32 := Host.absf main_arg1
  let main_cst_0 : FVec F S_ .f32 := constant S_ .f32 0x7F800000#32
  let main_v5 : FVec F S1x2048x64 .f32 := broadcastInDim S1x2048x64 ![] bcast_S_S1x2048x64 main_cst_0
  let main_v6 : IVec S1x2048x64 1 := cmpf .olt main_v4 main_v5
  let main_c_1 : IVec S_ 1 := constantI S_ 1 1#1
  let main_v7 : IVec S_ 1 := (fun x v => Host.reduce IntOp.andi x v reducesTo_S1x2048x64_S_d0_1_2 h_S_) main_v6 main_c_1
  let main_v8 : IVec S_ 1 := andi main_v3 main_v7
  let main_v9 : FVec F S1x2048x64 .f32 := Host.absf main_arg2
  let main_cst_2 : FVec F S_ .f32 := constant S_ .f32 0x7F800000#32
  let main_v10 : FVec F S1x2048x64 .f32 := broadcastInDim S1x2048x64 ![] bcast_S_S1x2048x64 main_cst_2
  let main_v11 : IVec S1x2048x64 1 := cmpf .olt main_v9 main_v10
  let main_c_3 : IVec S_ 1 := constantI S_ 1 1#1
  let main_v12 : IVec S_ 1 := (fun x v => Host.reduce IntOp.andi x v reducesTo_S1x2048x64_S_d0_1_2 h_S_) main_v11 main_c_3
  let main_v13 : IVec S_ 1 := andi main_v8 main_v12
  let main_v14 : FVec F S1536x2048 .f32 := Host.absf main_arg3
  let main_cst_4 : FVec F S_ .f32 := constant S_ .f32 0x7F800000#32
  let main_v15 : FVec F S1536x2048 .f32 := broadcastInDim S1536x2048 ![] bcast_S_S1536x2048 main_cst_4
  let main_v16 : IVec S1536x2048 1 := cmpf .olt main_v14 main_v15
  fn_part1 (F := F) main_arg4 main_arg5 main_arg6 main_arg7 main_arg8 main_v13 main_v16
-- ==== Kernel.lean ====
abbrev S1x2048x2048 : Shape := ⟨3, ![1, 2048, 2048]⟩
abbrev S1x2048x64 : Shape := ⟨3, ![1, 2048, 64]⟩
abbrev S1536x2048 : Shape := ⟨2, ![1536, 2048]⟩
abbrev S1536 : Shape := ⟨1, ![1536]⟩
abbrev S3072x1536 : Shape := ⟨2, ![3072, 1536]⟩
abbrev S576x2048 : Shape := ⟨2, ![576, 2048]⟩
abbrev S512 : Shape := ⟨1, ![512]⟩
abbrev S4096x512 : Shape := ⟨2, ![4096, 512]⟩
abbrev S2048x2048 : Shape := ⟨2, ![2048, 2048]⟩
abbrev S36 : Shape := ⟨1, ![36]⟩
abbrev S2048x64 : Shape := ⟨2, ![2048, 64]⟩
abbrev S2048x1536 : Shape := ⟨2, ![2048, 1536]⟩
abbrev S1536x3072 : Shape := ⟨2, ![1536, 3072]⟩
abbrev S2048x576 : Shape := ⟨2, ![2048, 576]⟩
abbrev S512x4096 : Shape := ⟨2, ![512, 4096]⟩
abbrev S1x1536 : Shape := ⟨2, ![1, 1536]⟩
abbrev S1x512 : Shape := ⟨2, ![1, 512]⟩
abbrev S16x2048x192 : Shape := ⟨3, ![16, 2048, 192]⟩
abbrev S16x2048x129 : Shape := ⟨3, ![16, 2048, 129]⟩
abbrev S256x2048 : Shape := ⟨2, ![256, 2048]⟩
abbrev S256x64 : Shape := ⟨2, ![256, 64]⟩
abbrev S16x256x192 : Shape := ⟨3, ![16, 256, 192]⟩
abbrev S16x256x129 : Shape := ⟨3, ![16, 256, 129]⟩
abbrev S256x1536 : Shape := ⟨2, ![256, 1536]⟩
abbrev S256 : Shape := ⟨1, ![256]⟩
abbrev S256x1 : Shape := ⟨2, ![256, 1]⟩
abbrev S256x3072 : Shape := ⟨2, ![256, 3072]⟩
abbrev S256x576 : Shape := ⟨2, ![256, 576]⟩
abbrev S256x512 : Shape := ⟨2, ![256, 512]⟩
abbrev S256x4096 : Shape := ⟨2, ![256, 4096]⟩
abbrev S256x32 : Shape := ⟨2, ![256, 32]⟩
abbrev S256x192 : Shape := ⟨2, ![256, 192]⟩
abbrev S256x128 : Shape := ⟨2, ![256, 128]⟩
abbrev S1x256x192 : Shape := ⟨3, ![1, 256, 192]⟩
abbrev S256x129 : Shape := ⟨2, ![256, 129]⟩
abbrev S1x256x129 : Shape := ⟨3, ![1, 256, 129]⟩
abbrev S1 : Shape := ⟨1, ![1]⟩
abbrev S256x256 : Shape := ⟨2, ![256, 256]⟩

abbrev nBuf : Space → Nat
  | .hbm => 30
  | .vmem => 26
  | .smem => 2
  | _ => 0

abbrev bufTy : (tb : Table) → Fin (tcTables nBuf tb) → BufTy
  | .hbm, ⟨0, _⟩ => ⟨S1x2048x2048, .f32⟩
  | .hbm, ⟨1, _⟩ => ⟨S1x2048x64, .f32⟩
  | .hbm, ⟨2, _⟩ => ⟨S1x2048x64, .f32⟩
  | .hbm, ⟨3, _⟩ => ⟨S1536x2048, .f32⟩
  | .hbm, ⟨4, _⟩ => ⟨S1536, .f32⟩
  | .hbm, ⟨5, _⟩ => ⟨S3072x1536, .f32⟩
  | .hbm, ⟨6, _⟩ => ⟨S576x2048, .f32⟩
  | .hbm, ⟨7, _⟩ => ⟨S512, .f32⟩
  | .hbm, ⟨8, _⟩ => ⟨S4096x512, .f32⟩
  | .hbm, ⟨9, _⟩ => ⟨S2048x2048, .f32⟩
  | .hbm, ⟨10, _⟩ => ⟨S2048x2048, .f32⟩
  | .hbm, ⟨11, _⟩ => ⟨S2048x64, .f32⟩
  | .hbm, ⟨12, _⟩ => ⟨S2048x64, .f32⟩
  | .hbm, ⟨13, _⟩ => ⟨S2048x1536, .f32⟩
  | .hbm, ⟨14, _⟩ => ⟨S2048x1536, .bf16⟩
  | .hbm, ⟨15, _⟩ => ⟨S1536x3072, .f32⟩
  | .hbm, ⟨16, _⟩ => ⟨S1536x3072, .bf16⟩
  | .hbm, ⟨17, _⟩ => ⟨S2048x576, .f32⟩
  | .hbm, ⟨18, _⟩ => ⟨S2048x576, .bf16⟩
  | .hbm, ⟨19, _⟩ => ⟨S512x4096, .f32⟩
  | .hbm, ⟨20, _⟩ => ⟨S512x4096, .bf16⟩
  | .hbm, ⟨21, _⟩ => ⟨S2048x2048, .f32⟩
  | .hbm, ⟨22, _⟩ => ⟨S2048x2048, .bf16⟩
  | .hbm, ⟨23, _⟩ => ⟨S1x1536, .f32⟩
  | .hbm, ⟨24, _⟩ => ⟨S1x512, .f32⟩
  | .hbm, ⟨25, _⟩ => ⟨S16x2048x192, .bf16⟩
  | .hbm, ⟨26, _⟩ => ⟨S16x2048x192, .bf16⟩
  | .hbm, ⟨27, _⟩ => ⟨S16x2048x129, .bf16⟩
  | .hbm, ⟨28, _⟩ => ⟨S2048x2048, .f32⟩
  | .hbm, ⟨29, _⟩ => ⟨S1x2048x2048, .f32⟩
  | .local _ .vmem, ⟨0, _⟩ => ⟨S256x2048, .f32⟩
  | .local _ .vmem, ⟨1, _⟩ => ⟨S256x2048, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S2048x1536, .bf16⟩
  | .local _ .vmem, ⟨7, _⟩ => ⟨S1x1536, .f32⟩
  | .local _ .vmem, ⟨8, _⟩ => ⟨S1536x3072, .bf16⟩
  | .local _ .vmem, ⟨9, _⟩ => ⟨S2048x576, .bf16⟩
  | .local _ .vmem, ⟨10, _⟩ => ⟨S1x512, .f32⟩
  | .local _ .vmem, ⟨11, _⟩ => ⟨S512x4096, .bf16⟩
  | .local _ .vmem, ⟨12, _⟩ => ⟨S16x256x192, .bf16⟩
  | .local _ .vmem, ⟨13, _⟩ => ⟨S16x256x192, .bf16⟩
  | .local _ .vmem, ⟨14, _⟩ => ⟨S16x256x192, .bf16⟩
  | .local _ .vmem, ⟨15, _⟩ => ⟨S16x256x192, .bf16⟩
  | .local _ .vmem, ⟨16, _⟩ => ⟨S16x256x129, .bf16⟩
  | .local _ .vmem, ⟨17, _⟩ => ⟨S16x256x129, .bf16⟩
  | .local _ .vmem, ⟨18, _⟩ => ⟨S16x256x192, .bf16⟩
  | .local _ .vmem, ⟨19, _⟩ => ⟨S16x256x192, .bf16⟩
  | .local _ .vmem, ⟨20, _⟩ => ⟨S16x2048x192, .bf16⟩
  | .local _ .vmem, ⟨21, _⟩ => ⟨S16x2048x129, .bf16⟩
  | .local _ .vmem, ⟨22, _⟩ => ⟨S2048x2048, .bf16⟩
  | .local _ .vmem, ⟨23, _⟩ => ⟨S256x2048, .f32⟩
  | .local _ .vmem, ⟨24, _⟩ => ⟨S256x2048, .f32⟩
  | .local _ .vmem, ⟨25, _⟩ => ⟨S16x256x129, .f32⟩
  | .local _ .smem, ⟨0, _⟩ => ⟨S36, .i32⟩
  | .local _ .smem, ⟨1, _⟩ => ⟨S36, .i32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg4_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x576 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x256x192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256x192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x129 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![36], ![false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v3 : BitVec 32) : Fin 3 → Nat :=
  let c0_3 : Index := 0#32
  let c256_i32 : BitVec 32 := 256#32
  let v15 : BitVec 32 := Scalar.muli v3 c256_i32
  let v16 : Index := Scalar.indexCast v15
  let c0_4 : Index := 0#32
  ![0, v16.toNat, 0]

def k1_off3 (v3 : BitVec 32) : Fin 3 → Nat :=
  let c0_10 : Index := 0#32
  let c256_i32_9 : BitVec 32 := 256#32
  let v26 : BitVec 32 := Scalar.muli v3 c256_i32_9
  let v27 : Index := Scalar.indexCast v26
  let c0_11 : Index := 0#32
  ![0, v27.toNat, 0]
def k1_off4 (v3 : BitVec 32) : Fin 3 → Nat :=
  let c1_19 : Index := 1#32
  let c256_i32_18 : BitVec 32 := 256#32
  let v37 : BitVec 32 := Scalar.muli v3 c256_i32_18
  let v38 : Index := Scalar.indexCast v37
  let c0_20 : Index := 0#32
  ![1, v38.toNat, 0]
def k1_off5 (v3 : BitVec 32) : Fin 3 → Nat :=
  let c1_27 : Index := 1#32
  let c256_i32_26 : BitVec 32 := 256#32
  let v48 : BitVec 32 := Scalar.muli v3 c256_i32_26
  let v49 : Index := Scalar.indexCast v48
  let c0_28 : Index := 0#32
  ![1, v49.toNat, 0]
def k1_off6 (v3 : BitVec 32) : Fin 3 → Nat :=
  let c2_36 : Index := 2#32
  let c256_i32_35 : BitVec 32 := 256#32
  let v59 : BitVec 32 := Scalar.muli v3 c256_i32_35
  let v60 : Index := Scalar.indexCast v59
  let c0_37 : Index := 0#32
  ![2, v60.toNat, 0]
def k1_off7 (v3 : BitVec 32) : Fin 3 → Nat :=
  let c2_44 : Index := 2#32
  let c256_i32_43 : BitVec 32 := 256#32
  let v70 : BitVec 32 := Scalar.muli v3 c256_i32_43
  let v71 : Index := Scalar.indexCast v70
  let c0_45 : Index := 0#32
  ![2, v71.toNat, 0]
def k1_off8 (v3 : BitVec 32) : Fin 3 → Nat :=
  let c3_53 : Index := 3#32
  let c256_i32_52 : BitVec 32 := 256#32
  let v81 : BitVec 32 := Scalar.muli v3 c256_i32_52
  let v82 : Index := Scalar.indexCast v81
  let c0_54 : Index := 0#32
  ![3, v82.toNat, 0]
def k1_off9 (v3 : BitVec 32) : Fin 3 → Nat :=
  let c3_61 : Index := 3#32
  let c256_i32_60 : BitVec 32 := 256#32
  let v92 : BitVec 32 := Scalar.muli v3 c256_i32_60
  let v93 : Index := Scalar.indexCast v92
  let c0_62 : Index := 0#32
  ![3, v93.toNat, 0]
def k1_off10 (v3 : BitVec 32) : Fin 3 → Nat :=
  let c4_70 : Index := 4#32
  let c256_i32_69 : BitVec 32 := 256#32
  let v103 : BitVec 32 := Scalar.muli v3 c256_i32_69
  let v104 : Index := Scalar.indexCast v103
  let c0_71 : Index := 0#32
  ![4, v104.toNat, 0]
def k1_off11 (v3 : BitVec 32) : Fin 3 → Nat :=
  let c4_78 : Index := 4#32
  let c256_i32_77 : BitVec 32 := 256#32
  let v114 : BitVec 32 := Scalar.muli v3 c256_i32_77
  let v115 : Index := Scalar.indexCast v114
  let c0_79 : Index := 0#32
  ![4, v115.toNat, 0]
def k1_off12 (v3 : BitVec 32) : Fin 3 → Nat :=
  let c5_87 : Index := 5#32
  let c256_i32_86 : BitVec 32 := 256#32
  let v125 : BitVec 32 := Scalar.muli v3 c256_i32_86
  let v126 : Index := Scalar.indexCast v125
  let c0_88 : Index := 0#32
  ![5, v126.toNat, 0]
def k1_off13 (v3 : BitVec 32) : Fin 3 → Nat :=
  let c5_95 : Index := 5#32
  let c256_i32_94 : BitVec 32 := 256#32
  let v136 : BitVec 32 := Scalar.muli v3 c256_i32_94
  let v137 : Index := Scalar.indexCast v136
  let c0_96 : Index := 0#32
  ![5, v137.toNat, 0]
def k1_off14 (v3 : BitVec 32) : Fin 3 → Nat :=
  let c6_104 : Index := 6#32
  let c256_i32_103 : BitVec 32 := 256#32
  let v147 : BitVec 32 := Scalar.muli v3 c256_i32_103
  let v148 : Index := Scalar.indexCast v147
  let c0_105 : Index := 0#32
  ![6, v148.toNat, 0]
def k1_off15 (v3 : BitVec 32) : Fin 3 → Nat :=
  let c6_112 : Index := 6#32
  let c256_i32_111 : BitVec 32 := 256#32
  let v158 : BitVec 32 := Scalar.muli v3 c256_i32_111
  let v159 : Index := Scalar.indexCast v158
  let c0_113 : Index := 0#32
  ![6, v159.toNat, 0]
def k1_off16 (v3 : BitVec 32) : Fin 3 → Nat :=
  let c7_121 : Index := 7#32
  let c256_i32_120 : BitVec 32 := 256#32
  let v169 : BitVec 32 := Scalar.muli v3 c256_i32_120
  let v170 : Index := Scalar.indexCast v169
  let c0_122 : Index := 0#32
  ![7, v170.toNat, 0]
def k1_off17 (v3 : BitVec 32) : Fin 3 → Nat :=
  let c7_129 : Index := 7#32
  let c256_i32_128 : BitVec 32 := 256#32
  let v180 : BitVec 32 := Scalar.muli v3 c256_i32_128
  let v181 : Index := Scalar.indexCast v180
  let c0_130 : Index := 0#32
  ![7, v181.toNat, 0]
def k1_off18 (v3 : BitVec 32) : Fin 3 → Nat :=
  let c8_138 : Index := 8#32
  let c256_i32_137 : BitVec 32 := 256#32
  let v191 : BitVec 32 := Scalar.muli v3 c256_i32_137
  let v192 : Index := Scalar.indexCast v191
  let c0_139 : Index := 0#32
  ![8, v192.toNat, 0]
def k1_off19 (v3 : BitVec 32) : Fin 3 → Nat :=
  let c8_146 : Index := 8#32
  let c256_i32_145 : BitVec 32 := 256#32
  let v202 : BitVec 32 := Scalar.muli v3 c256_i32_145
  let v203 : Index := Scalar.indexCast v202
  let c0_147 : Index := 0#32
  ![8, v203.toNat, 0]
def k1_off20 (v3 : BitVec 32) : Fin 3 → Nat :=
  let c9_155 : Index := 9#32
  let c256_i32_154 : BitVec 32 := 256#32
  let v213 : BitVec 32 := Scalar.muli v3 c256_i32_154
  let v214 : Index := Scalar.indexCast v213
  let c0_156 : Index := 0#32
  ![9, v214.toNat, 0]
def k1_off21 (v3 : BitVec 32) : Fin 3 → Nat :=
  let c9_163 : Index := 9#32
  let c256_i32_162 : BitVec 32 := 256#32
  let v224 : BitVec 32 := Scalar.muli v3 c256_i32_162
  let v225 : Index := Scalar.indexCast v224
  let c0_164 : Index := 0#32
  ![9, v225.toNat, 0]
def k1_off22 (v3 : BitVec 32) : Fin 3 → Nat :=
  let c10_172 : Index := 10#32
  let c256_i32_171 : BitVec 32 := 256#32
  let v235 : BitVec 32 := Scalar.muli v3 c256_i32_171
  let v236 : Index := Scalar.indexCast v235
  let c0_173 : Index := 0#32
  ![10, v236.toNat, 0]
def k1_off23 (v3 : BitVec 32) : Fin 3 → Nat :=
  let c10_180 : Index := 10#32
  let c256_i32_179 : BitVec 32 := 256#32
  let v246 : BitVec 32 := Scalar.muli v3 c256_i32_179
  let v247 : Index := Scalar.indexCast v246
  let c0_181 : Index := 0#32
  ![10, v247.toNat, 0]
def k1_off24 (v3 : BitVec 32) : Fin 3 → Nat :=
  let c11_189 : Index := 11#32
  let c256_i32_188 : BitVec 32 := 256#32
  let v257 : BitVec 32 := Scalar.muli v3 c256_i32_188
  let v258 : Index := Scalar.indexCast v257
  let c0_190 : Index := 0#32
  ![11, v258.toNat, 0]
def k1_off25 (v3 : BitVec 32) : Fin 3 → Nat :=
  let c11_197 : Index := 11#32
  let c256_i32_196 : BitVec 32 := 256#32
  let v268 : BitVec 32 := Scalar.muli v3 c256_i32_196
  let v269 : Index := Scalar.indexCast v268
  let c0_198 : Index := 0#32
  ![11, v269.toNat, 0]
def k1_off26 (v3 : BitVec 32) : Fin 3 → Nat :=
  let c12_206 : Index := 12#32
  let c256_i32_205 : BitVec 32 := 256#32
  let v279 : BitVec 32 := Scalar.muli v3 c256_i32_205
  let v280 : Index := Scalar.indexCast v279
  let c0_207 : Index := 0#32
  ![12, v280.toNat, 0]
def k1_off27 (v3 : BitVec 32) : Fin 3 → Nat :=
  let c12_214 : Index := 12#32
  let c256_i32_213 : BitVec 32 := 256#32
  let v290 : BitVec 32 := Scalar.muli v3 c256_i32_213
  let v291 : Index := Scalar.indexCast v290
  let c0_215 : Index := 0#32
  ![12, v291.toNat, 0]
def k1_off28 (v3 : BitVec 32) : Fin 3 → Nat :=
  let c13_223 : Index := 13#32
  let c256_i32_222 : BitVec 32 := 256#32
  let v301 : BitVec 32 := Scalar.muli v3 c256_i32_222
  let v302 : Index := Scalar.indexCast v301
  let c0_224 : Index := 0#32
  ![13, v302.toNat, 0]
def k1_off29 (v3 : BitVec 32) : Fin 3 → Nat :=
  let c13_231 : Index := 13#32
  let c256_i32_230 : BitVec 32 := 256#32
  let v312 : BitVec 32 := Scalar.muli v3 c256_i32_230
  let v313 : Index := Scalar.indexCast v312
  let c0_232 : Index := 0#32
  ![13, v313.toNat, 0]
def k1_off30 (v3 : BitVec 32) : Fin 3 → Nat :=
  let c14_240 : Index := 14#32
  let c256_i32_239 : BitVec 32 := 256#32
  let v323 : BitVec 32 := Scalar.muli v3 c256_i32_239
  let v324 : Index := Scalar.indexCast v323
  let c0_241 : Index := 0#32
  ![14, v324.toNat, 0]
def k1_off31 (v3 : BitVec 32) : Fin 3 → Nat :=
  let c14_248 : Index := 14#32
  let c256_i32_247 : BitVec 32 := 256#32
  let v334 : BitVec 32 := Scalar.muli v3 c256_i32_247
  let v335 : Index := Scalar.indexCast v334
  let c0_249 : Index := 0#32
  ![14, v335.toNat, 0]
def k1_off32 (v3 : BitVec 32) : Fin 3 → Nat :=
  let c15_257 : Index := 15#32
  let c256_i32_256 : BitVec 32 := 256#32
  let v345 : BitVec 32 := Scalar.muli v3 c256_i32_256
  let v346 : Index := Scalar.indexCast v345
  let c0_258 : Index := 0#32
  ![15, v346.toNat, 0]
def k1_off33 (v3 : BitVec 32) : Fin 3 → Nat :=
  let c15_265 : Index := 15#32
  let c256_i32_264 : BitVec 32 := 256#32
  let v356 : BitVec 32 := Scalar.muli v3 c256_i32_264
  let v357 : Index := Scalar.indexCast v356
  let c0_266 : Index := 0#32
  ![15, v357.toNat, 0]

def k1_chk1 (v3 : BitVec 32) : Prop :=
  (∀ a, (k1_off2 v3) a + S1x256x192.size a ≤ S16x2048x192.size a) ∧
  (∀ a, (k1_off3 v3) a + S1x256x129.size a ≤ S16x2048x129.size a) ∧
  (∀ a, (k1_off4 v3) a + S1x256x192.size a ≤ S16x2048x192.size a) ∧
  (∀ a, (k1_off5 v3) a + S1x256x129.size a ≤ S16x2048x129.size a) ∧
  (∀ a, (k1_off6 v3) a + S1x256x192.size a ≤ S16x2048x192.size a) ∧
  (∀ a, (k1_off7 v3) a + S1x256x129.size a ≤ S16x2048x129.size a) ∧
  (∀ a, (k1_off8 v3) a + S1x256x192.size a ≤ S16x2048x192.size a) ∧
  (∀ a, (k1_off9 v3) a + S1x256x129.size a ≤ S16x2048x129.size a) ∧
  (∀ a, (k1_off10 v3) a + S1x256x192.size a ≤ S16x2048x192.size a) ∧
  (∀ a, (k1_off11 v3) a + S1x256x129.size a ≤ S16x2048x129.size a) ∧
  (∀ a, (k1_off12 v3) a + S1x256x192.size a ≤ S16x2048x192.size a) ∧
  (∀ a, (k1_off13 v3) a + S1x256x129.size a ≤ S16x2048x129.size a) ∧
  (∀ a, (k1_off14 v3) a + S1x256x192.size a ≤ S16x2048x192.size a) ∧
  (∀ a, (k1_off15 v3) a + S1x256x129.size a ≤ S16x2048x129.size a) ∧
  (∀ a, (k1_off16 v3) a + S1x256x192.size a ≤ S16x2048x192.size a) ∧
  (∀ a, (k1_off17 v3) a + S1x256x129.size a ≤ S16x2048x129.size a) ∧
  (∀ a, (k1_off18 v3) a + S1x256x192.size a ≤ S16x2048x192.size a) ∧
  (∀ a, (k1_off19 v3) a + S1x256x129.size a ≤ S16x2048x129.size a) ∧
  (∀ a, (k1_off20 v3) a + S1x256x192.size a ≤ S16x2048x192.size a) ∧
  (∀ a, (k1_off21 v3) a + S1x256x129.size a ≤ S16x2048x129.size a) ∧
  (∀ a, (k1_off22 v3) a + S1x256x192.size a ≤ S16x2048x192.size a) ∧
  (∀ a, (k1_off23 v3) a + S1x256x129.size a ≤ S16x2048x129.size a) ∧
  (∀ a, (k1_off24 v3) a + S1x256x192.size a ≤ S16x2048x192.size a) ∧
  (∀ a, (k1_off25 v3) a + S1x256x129.size a ≤ S16x2048x129.size a) ∧
  (∀ a, (k1_off26 v3) a + S1x256x192.size a ≤ S16x2048x192.size a) ∧
  (∀ a, (k1_off27 v3) a + S1x256x129.size a ≤ S16x2048x129.size a) ∧
  (∀ a, (k1_off28 v3) a + S1x256x192.size a ≤ S16x2048x192.size a) ∧
  (∀ a, (k1_off29 v3) a + S1x256x129.size a ≤ S16x2048x129.size a) ∧
  (∀ a, (k1_off30 v3) a + S1x256x192.size a ≤ S16x2048x192.size a) ∧
  (∀ a, (k1_off31 v3) a + S1x256x129.size a ≤ S16x2048x129.size a) ∧
  (∀ a, (k1_off32 v3) a + S1x256x192.size a ≤ S16x2048x192.size a) ∧
  (∀ a, (k1_off33 v3) a + S1x256x129.size a ≤ S16x2048x129.size a)
theorem k1_off2_inb : ∀ (v3 : BitVec 32) (k1_hw1 : k1_chk1 v3), ∀ a, (k1_off2 v3) a + S1x256x192.size a ≤ S16x2048x192.size a := fun v3 k1_hw1 => k1_hw1.1
theorem k1_off3_inb : ∀ (v3 : BitVec 32) (k1_hw1 : k1_chk1 v3), ∀ a, (k1_off3 v3) a + S1x256x129.size a ≤ S16x2048x129.size a := fun v3 k1_hw1 => k1_hw1.2.1
theorem k1_off4_inb : ∀ (v3 : BitVec 32) (k1_hw1 : k1_chk1 v3), ∀ a, (k1_off4 v3) a + S1x256x192.size a ≤ S16x2048x192.size a := fun v3 k1_hw1 => k1_hw1.2.2.1
theorem k1_off5_inb : ∀ (v3 : BitVec 32) (k1_hw1 : k1_chk1 v3), ∀ a, (k1_off5 v3) a + S1x256x129.size a ≤ S16x2048x129.size a := fun v3 k1_hw1 => k1_hw1.2.2.2.1
theorem k1_off6_inb : ∀ (v3 : BitVec 32) (k1_hw1 : k1_chk1 v3), ∀ a, (k1_off6 v3) a + S1x256x192.size a ≤ S16x2048x192.size a := fun v3 k1_hw1 => k1_hw1.2.2.2.2.1
theorem k1_off7_inb : ∀ (v3 : BitVec 32) (k1_hw1 : k1_chk1 v3), ∀ a, (k1_off7 v3) a + S1x256x129.size a ≤ S16x2048x129.size a := fun v3 k1_hw1 => k1_hw1.2.2.2.2.2.1
theorem k1_off8_inb : ∀ (v3 : BitVec 32) (k1_hw1 : k1_chk1 v3), ∀ a, (k1_off8 v3) a + S1x256x192.size a ≤ S16x2048x192.size a := fun v3 k1_hw1 => k1_hw1.2.2.2.2.2.2.1
theorem k1_off9_inb : ∀ (v3 : BitVec 32) (k1_hw1 : k1_chk1 v3), ∀ a, (k1_off9 v3) a + S1x256x129.size a ≤ S16x2048x129.size a := fun v3 k1_hw1 => k1_hw1.2.2.2.2.2.2.2.1
theorem k1_off10_inb : ∀ (v3 : BitVec 32) (k1_hw1 : k1_chk1 v3), ∀ a, (k1_off10 v3) a + S1x256x192.size a ≤ S16x2048x192.size a := fun v3 k1_hw1 => k1_hw1.2.2.2.2.2.2.2.2.1
theorem k1_off11_inb : ∀ (v3 : BitVec 32) (k1_hw1 : k1_chk1 v3), ∀ a, (k1_off11 v3) a + S1x256x129.size a ≤ S16x2048x129.size a := fun v3 k1_hw1 => k1_hw1.2.2.2.2.2.2.2.2.2.1
theorem k1_off12_inb : ∀ (v3 : BitVec 32) (k1_hw1 : k1_chk1 v3), ∀ a, (k1_off12 v3) a + S1x256x192.size a ≤ S16x2048x192.size a := fun v3 k1_hw1 => k1_hw1.2.2.2.2.2.2.2.2.2.2.1
theorem k1_off13_inb : ∀ (v3 : BitVec 32) (k1_hw1 : k1_chk1 v3), ∀ a, (k1_off13 v3) a + S1x256x129.size a ≤ S16x2048x129.size a := fun v3 k1_hw1 => k1_hw1.2.2.2.2.2.2.2.2.2.2.2.1
theorem k1_off14_inb : ∀ (v3 : BitVec 32) (k1_hw1 : k1_chk1 v3), ∀ a, (k1_off14 v3) a + S1x256x192.size a ≤ S16x2048x192.size a := fun v3 k1_hw1 => k1_hw1.2.2.2.2.2.2.2.2.2.2.2.2.1
theorem k1_off15_inb : ∀ (v3 : BitVec 32) (k1_hw1 : k1_chk1 v3), ∀ a, (k1_off15 v3) a + S1x256x129.size a ≤ S16x2048x129.size a := fun v3 k1_hw1 => k1_hw1.2.2.2.2.2.2.2.2.2.2.2.2.2.1
theorem k1_off16_inb : ∀ (v3 : BitVec 32) (k1_hw1 : k1_chk1 v3), ∀ a, (k1_off16 v3) a + S1x256x192.size a ≤ S16x2048x192.size a := fun v3 k1_hw1 => k1_hw1.2.2.2.2.2.2.2.2.2.2.2.2.2.2.1
theorem k1_off17_inb : ∀ (v3 : BitVec 32) (k1_hw1 : k1_chk1 v3), ∀ a, (k1_off17 v3) a + S1x256x129.size a ≤ S16x2048x129.size a := fun v3 k1_hw1 => k1_hw1.2.2.2.2.2.2.2.2.2.2.2.2.2.2.2.1
theorem k1_off18_inb : ∀ (v3 : BitVec 32) (k1_hw1 : k1_chk1 v3), ∀ a, (k1_off18 v3) a + S1x256x192.size a ≤ S16x2048x192.size a := fun v3 k1_hw1 => k1_hw1.2.2.2.2.2.2.2.2.2.2.2.2.2.2.2.2.1
theorem k1_off19_inb : ∀ (v3 : BitVec 32) (k1_hw1 : k1_chk1 v3), ∀ a, (k1_off19 v3) a + S1x256x129.size a ≤ S16x2048x129.size a := fun v3 k1_hw1 => k1_hw1.2.2.2.2.2.2.2.2.2.2.2.2.2.2.2.2.2.1
theorem k1_off20_inb : ∀ (v3 : BitVec 32) (k1_hw1 : k1_chk1 v3), ∀ a, (k1_off20 v3) a + S1x256x192.size a ≤ S16x2048x192.size a := fun v3 k1_hw1 => k1_hw1.2.2.2.2.2.2.2.2.2.2.2.2.2.2.2.2.2.2.1
theorem k1_off21_inb : ∀ (v3 : BitVec 32) (k1_hw1 : k1_chk1 v3), ∀ a, (k1_off21 v3) a + S1x256x129.size a ≤ S16x2048x129.size a := fun v3 k1_hw1 => k1_hw1.2.2.2.2.2.2.2.2.2.2.2.2.2.2.2.2.2.2.2.1
theorem k1_off22_inb : ∀ (v3 : BitVec 32) (k1_hw1 : k1_chk1 v3), ∀ a, (k1_off22 v3) a + S1x256x192.size a ≤ S16x2048x192.size a := fun v3 k1_hw1 => k1_hw1.2.2.2.2.2.2.2.2.2.2.2.2.2.2.2.2.2.2.2.2.1
theorem k1_off23_inb : ∀ (v3 : BitVec 32) (k1_hw1 : k1_chk1 v3), ∀ a, (k1_off23 v3) a + S1x256x129.size a ≤ S16x2048x129.size a := fun v3 k1_hw1 => k1_hw1.2.2.2.2.2.2.2.2.2.2.2.2.2.2.2.2.2.2.2.2.2.1
theorem k1_off24_inb : ∀ (v3 : BitVec 32) (k1_hw1 : k1_chk1 v3), ∀ a, (k1_off24 v3) a + S1x256x192.size a ≤ S16x2048x192.size a := fun v3 k1_hw1 => k1_hw1.2.2.2.2.2.2.2.2.2.2.2.2.2.2.2.2.2.2.2.2.2.2.1
theorem k1_off25_inb : ∀ (v3 : BitVec 32) (k1_hw1 : k1_chk1 v3), ∀ a, (k1_off25 v3) a + S1x256x129.size a ≤ S16x2048x129.size a := fun v3 k1_hw1 => k1_hw1.2.2.2.2.2.2.2.2.2.2.2.2.2.2.2.2.2.2.2.2.2.2.2.1
theorem k1_off26_inb : ∀ (v3 : BitVec 32) (k1_hw1 : k1_chk1 v3), ∀ a, (k1_off26 v3) a + S1x256x192.size a ≤ S16x2048x192.size a := fun v3 k1_hw1 => k1_hw1.2.2.2.2.2.2.2.2.2.2.2.2.2.2.2.2.2.2.2.2.2.2.2.2.1
theorem k1_off27_inb : ∀ (v3 : BitVec 32) (k1_hw1 : k1_chk1 v3), ∀ a, (k1_off27 v3) a + S1x256x129.size a ≤ S16x2048x129.size a := fun v3 k1_hw1 => k1_hw1.2.2.2.2.2.2.2.2.2.2.2.2.2.2.2.2.2.2.2.2.2.2.2.2.2.1
theorem k1_off28_inb : ∀ (v3 : BitVec 32) (k1_hw1 : k1_chk1 v3), ∀ a, (k1_off28 v3) a + S1x256x192.size a ≤ S16x2048x192.size a := fun v3 k1_hw1 => k1_hw1.2.2.2.2.2.2.2.2.2.2.2.2.2.2.2.2.2.2.2.2.2.2.2.2.2.2.1
theorem k1_off29_inb : ∀ (v3 : BitVec 32) (k1_hw1 : k1_chk1 v3), ∀ a, (k1_off29 v3) a + S1x256x129.size a ≤ S16x2048x129.size a := fun v3 k1_hw1 => k1_hw1.2.2.2.2.2.2.2.2.2.2.2.2.2.2.2.2.2.2.2.2.2.2.2.2.2.2.2.1
theorem k1_off30_inb : ∀ (v3 : BitVec 32) (k1_hw1 : k1_chk1 v3), ∀ a, (k1_off30 v3) a + S1x256x192.size a ≤ S16x2048x192.size a := fun v3 k1_hw1 => k1_hw1.2.2.2.2.2.2.2.2.2.2.2.2.2.2.2.2.2.2.2.2.2.2.2.2.2.2.2.2.1
theorem k1_off31_inb : ∀ (v3 : BitVec 32) (k1_hw1 : k1_chk1 v3), ∀ a, (k1_off31 v3) a + S1x256x129.size a ≤ S16x2048x129.size a := fun v3 k1_hw1 => k1_hw1.2.2.2.2.2.2.2.2.2.2.2.2.2.2.2.2.2.2.2.2.2.2.2.2.2.2.2.2.2.1
theorem k1_off32_inb : ∀ (v3 : BitVec 32) (k1_hw1 : k1_chk1 v3), ∀ a, (k1_off32 v3) a + S1x256x192.size a ≤ S16x2048x192.size a := fun v3 k1_hw1 => k1_hw1.2.2.2.2.2.2.2.2.2.2.2.2.2.2.2.2.2.2.2.2.2.2.2.2.2.2.2.2.2.2.1
theorem k1_off33_inb : ∀ (v3 : BitVec 32) (k1_hw1 : k1_chk1 v3), ∀ a, (k1_off33 v3) a + S1x256x129.size a ≤ S16x2048x129.size a := fun v3 k1_hw1 => k1_hw1.2.2.2.2.2.2.2.2.2.2.2.2.2.2.2.2.2.2.2.2.2.2.2.2.2.2.2.2.2.2.2

def k1_cond2 (v1 : BitVec 32) (v3 : BitVec 32) : BitVec 1 :=
  let v365 : BitVec 1 := Scalar.cmpi .eq v3 v1
  let v366 : BitVec 32 := Scalar.extui v365
  let c0_i32_271 : BitVec 32 := 0#32
  let v367 : BitVec 1 := Scalar.cmpi .ne v366 c0_i32_271
  v367

def cc1_transform_0 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S36) ![v0.toNat] S1.size (k1_off1_inb i)) numel1_S1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (k1_off1_inb : ∀ i : grid1.Coords, ∀ a, (k1_off1 i) a + S1.size a ≤ S36.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S36) ![v0.toNat] S1.size (k1_off1_inb i)) numel1_S1
  let c0_i32 : BitVec 32 := 0#32
  let c0_i32_0 : BitVec 32 := 0#32
  ![v1.toNat, c0_i32.toNat]

abbrev stage1_0 : Fin 2 → Memref sig .tc .vmem S16x256x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2048x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x2048x129 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1x2048x2048 : Shape := ⟨3, ![1, 2048, 2048]⟩
abbrev S1x2048x64 : Shape := ⟨3, ![1, 2048, 64]⟩
abbrev S1536x2048 : Shape := ⟨2, ![1536, 2048]⟩
abbrev S1536 : Shape := ⟨1, ![1536]⟩
abbrev S3072x1536 : Shape := ⟨2, ![3072, 1536]⟩
abbrev S576x2048 : Shape := ⟨2, ![576, 2048]⟩
abbrev S512 : Shape := ⟨1, ![512]⟩
abbrev S4096x512 : Shape := ⟨2, ![4096, 512]⟩
abbrev S2048x2048 : Shape := ⟨2, ![2048, 2048]⟩
abbrev S2048x1536 : Shape := ⟨2, ![2048, 1536]⟩
abbrev S1x2048x1536 : Shape := ⟨3, ![1, 2048, 1536]⟩
abbrev S_ : Shape := ⟨0, ![]⟩
abbrev S1x2048 : Shape := ⟨2, ![1, 2048]⟩
abbrev S1x2048x1 : Shape := ⟨3, ![1, 2048, 1]⟩
abbrev S1x1x1536 : Shape := ⟨3, ![1, 1, 1536]⟩
abbrev S1536x3072 : Shape := ⟨2, ![1536, 3072]⟩
abbrev S1x2048x3072 : Shape := ⟨3, ![1, 2048, 3072]⟩
abbrev S1x2048x16x192 : Shape := ⟨4, ![1, 2048, 16, 192]⟩
abbrev S1x16x2048x192 : Shape := ⟨4, ![1, 16, 2048, 192]⟩
abbrev S1x16x2048x128 : Shape := ⟨4, ![1, 16, 2048, 128]⟩
abbrev S1x16x2048x64 : Shape := ⟨4, ![1, 16, 2048, 64]⟩
abbrev S2048x576 : Shape := ⟨2, ![2048, 576]⟩
abbrev S1x2048x576 : Shape := ⟨3, ![1, 2048, 576]⟩
abbrev S1x2048x512 : Shape := ⟨3, ![1, 2048, 512]⟩
abbrev S1x1x512 : Shape := ⟨3, ![1, 1, 512]⟩
abbrev S512x4096 : Shape := ⟨2, ![512, 4096]⟩
abbrev S1x2048x4096 : Shape := ⟨3, ![1, 2048, 4096]⟩
abbrev S1x2048x16x256 : Shape := ⟨4, ![1, 2048, 16, 256]⟩
abbrev S1x16x2048x256 : Shape := ⟨4, ![1, 16, 2048, 256]⟩
abbrev S1x1x2048x64 : Shape := ⟨4, ![1, 1, 2048, 64]⟩
abbrev S1x16x2048x32 : Shape := ⟨4, ![1, 16, 2048, 32]⟩
abbrev S1x1x2048x32 : Shape := ⟨4, ![1, 1, 2048, 32]⟩
abbrev S1x16x2048x2048 : Shape := ⟨4, ![1, 16, 2048, 2048]⟩
abbrev S2048 : Shape := ⟨1, ![2048]⟩
abbrev S2048x1 : Shape := ⟨2, ![2048, 1]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩
abbrev S1x2048x16x128 : Shape := ⟨4, ![1, 2048, 16, 128]⟩

abbrev nBuf : Space → Nat
  | .hbm => 120
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x64, .f32⟩
  | .hbm, ⟨2, _⟩ => ⟨S1x2048x64, .f32⟩
  | .hbm, ⟨3, _⟩ => ⟨S1536x2048, .f32⟩
  | .hbm, ⟨4, _⟩ => ⟨S1536, .f32⟩
  | .hbm, ⟨5, _⟩ => ⟨S3072x1536, .f32⟩
  | .hbm, ⟨6, _⟩ => ⟨S576x2048, .f32⟩
  | .hbm, ⟨7, _⟩ => ⟨S512, .f32⟩
  | .hbm, ⟨8, _⟩ => ⟨S4096x512, .f32⟩
  | .hbm, ⟨9, _⟩ => ⟨S2048x2048, .f32⟩
  | .hbm, ⟨10, _⟩ => ⟨S2048x1536, .f32⟩
  | .hbm, ⟨11, _⟩ => ⟨S1x2048x1536, .f32⟩
  | .hbm, ⟨12, _⟩ => ⟨S1x2048x1536, .f32⟩
  | .hbm, ⟨13, _⟩ => ⟨S_, .f32⟩
  | .hbm, ⟨14, _⟩ => ⟨S1x2048, .f32⟩
  | .hbm, ⟨15, _⟩ => ⟨S1x2048x1, .f32⟩
  | .hbm, ⟨16, _⟩ => ⟨S_, .f32⟩
  | .hbm, ⟨17, _⟩ => ⟨S1x2048x1, .f32⟩
  | .hbm, ⟨18, _⟩ => ⟨S1x2048x1, .f32⟩
  | .hbm, ⟨19, _⟩ => ⟨S_, .f32⟩
  | .hbm, ⟨20, _⟩ => ⟨S1x2048x1, .f32⟩
  | .hbm, ⟨21, _⟩ => ⟨S1x2048x1, .f32⟩
  | .hbm, ⟨22, _⟩ => ⟨S1x2048x1, .f32⟩
  | .hbm, ⟨23, _⟩ => ⟨S1x2048x1536, .f32⟩
  | .hbm, ⟨24, _⟩ => ⟨S1x2048x1536, .f32⟩
  | .hbm, ⟨25, _⟩ => ⟨S1x1x1536, .f32⟩
  | .hbm, ⟨26, _⟩ => ⟨S1x2048x1536, .f32⟩
  | .hbm, ⟨27, _⟩ => ⟨S1x2048x1536, .f32⟩
  | .hbm, ⟨28, _⟩ => ⟨S1536x3072, .f32⟩
  | .hbm, ⟨29, _⟩ => ⟨S1x2048x3072, .f32⟩
  | .hbm, ⟨30, _⟩ => ⟨S1x2048x16x192, .f32⟩
  | .hbm, ⟨31, _⟩ => ⟨S1x16x2048x192, .f32⟩
  | .hbm, ⟨32, _⟩ => ⟨S1x16x2048x128, .f32⟩
  | .hbm, ⟨33, _⟩ => ⟨S1x16x2048x64, .f32⟩
  | .hbm, ⟨34, _⟩ => ⟨S2048x576, .f32⟩
  | .hbm, ⟨35, _⟩ => ⟨S1x2048x576, .f32⟩
  | .hbm, ⟨36, _⟩ => ⟨S1x2048x512, .f32⟩
  | .hbm, ⟨37, _⟩ => ⟨S1x2048x512, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S_, .f32⟩
  | .hbm, ⟨42, _⟩ => ⟨S1x2048x1, .f32⟩
  | .hbm, ⟨43, _⟩ => ⟨S1x2048x1, .f32⟩
  | .hbm, ⟨44, _⟩ => ⟨S_, .f32⟩
  | .hbm, ⟨45, _⟩ => ⟨S1x2048x1, .f32⟩
  | .hbm, ⟨46, _⟩ => ⟨S1x2048x1, .f32⟩
  | .hbm, ⟨47, _⟩ => ⟨S1x2048x1, .f32⟩
  | .hbm, ⟨48, _⟩ => ⟨S1x2048x512, .f32⟩
  | .hbm, ⟨49, _⟩ => ⟨S1x2048x512, .f32⟩
  | .hbm, ⟨50, _⟩ => ⟨S1x1x512, .f32⟩
  | .hbm, ⟨51, _⟩ => ⟨S1x2048x512, .f32⟩
  | .hbm, ⟨52, _⟩ => ⟨S1x2048x512, .f32⟩
  | .hbm, ⟨53, _⟩ => ⟨S1x2048x64, .f32⟩
  | .hbm, ⟨54, _⟩ => ⟨S512x4096, .f32⟩
  | .hbm, ⟨55, _⟩ => ⟨S1x2048x4096, .f32⟩
  | .hbm, ⟨56, _⟩ => ⟨S1x2048x16x256, .f32⟩
  | .hbm, ⟨57, _⟩ => ⟨S1x16x2048x256, .f32⟩
  | .hbm, ⟨58, _⟩ => ⟨S1x16x2048x128, .f32⟩
  | .hbm, ⟨59, _⟩ => ⟨S1x16x2048x128, .f32⟩
  | .hbm, ⟨60, _⟩ => ⟨S1x1x2048x64, .f32⟩
  | .hbm, ⟨61, _⟩ => ⟨S1x1x2048x64, .f32⟩
  | .hbm, ⟨62, _⟩ => ⟨S1x16x2048x64, .f32⟩
  | .hbm, ⟨63, _⟩ => ⟨S1x16x2048x64, .f32⟩
  | .hbm, ⟨64, _⟩ => ⟨S1x16x2048x32, .f32⟩
  | .hbm, ⟨65, _⟩ => ⟨S1x16x2048x32, .f32⟩
  | .hbm, ⟨66, _⟩ => ⟨S1x16x2048x32, .f32⟩
  | .hbm, ⟨67, _⟩ => ⟨S1x16x2048x64, .f32⟩
  | .hbm, ⟨68, _⟩ => ⟨S1x16x2048x64, .f32⟩
  | .hbm, ⟨69, _⟩ => ⟨S1x16x2048x64, .f32⟩
  | .hbm, ⟨70, _⟩ => ⟨S1x16x2048x64, .f32⟩
  | .hbm, ⟨71, _⟩ => ⟨S1x1x2048x64, .f32⟩
  | .hbm, ⟨72, _⟩ => ⟨S1x1x2048x64, .f32⟩
  | .hbm, ⟨73, _⟩ => ⟨S1x1x2048x32, .f32⟩
  | .hbm, ⟨74, _⟩ => ⟨S1x1x2048x32, .f32⟩
  | .hbm, ⟨75, _⟩ => ⟨S1x1x2048x32, .f32⟩
  | .hbm, ⟨76, _⟩ => ⟨S1x1x2048x64, .f32⟩
  | .hbm, ⟨77, _⟩ => ⟨S1x1x2048x64, .f32⟩
  | .hbm, ⟨78, _⟩ => ⟨S1x1x2048x64, .f32⟩
  | .hbm, ⟨79, _⟩ => ⟨S1x16x2048x64, .f32⟩
  | .hbm, ⟨80, _⟩ => ⟨S1x16x2048x192, .f32⟩
  | .hbm, ⟨81, _⟩ => ⟨S1x16x2048x192, .f32⟩
  | .hbm, ⟨82, _⟩ => ⟨S1x16x2048x2048, .f32⟩
  | .hbm, ⟨83, _⟩ => ⟨S_, .f32⟩
  | .hbm, ⟨84, _⟩ => ⟨S1x16x2048x2048, .f32⟩
  | .hbm, ⟨85, _⟩ => ⟨S1x16x2048x2048, .f32⟩
  | .hbm, ⟨86, _⟩ => ⟨S2048, .i32⟩
  | .hbm, ⟨87, _⟩ => ⟨S2048x1, .i32⟩
  | .hbm, ⟨88, _⟩ => ⟨S1x2048, .i32⟩
  | .hbm, ⟨89, _⟩ => ⟨S2048x2048, .i32⟩
  | .hbm, ⟨90, _⟩ => ⟨S2048x2048, .i32⟩
  | .hbm, ⟨91, _⟩ => ⟨S2048x2048, .i1⟩
  | .hbm, ⟨92, _⟩ => ⟨S_, .f32⟩
  | .hbm, ⟨93, _⟩ => ⟨S_, .f32⟩
  | .hbm, ⟨94, _⟩ => ⟨S2048x2048, .f32⟩
  | .hbm, ⟨95, _⟩ => ⟨S2048x2048, .f32⟩
  | .hbm, ⟨96, _⟩ => ⟨S2048x2048, .f32⟩
  | .hbm, ⟨97, _⟩ => ⟨S1x1x2048x2048, .f32⟩
  | .hbm, ⟨98, _⟩ => ⟨S1x1x2048x2048, .f32⟩
  | .hbm, ⟨99, _⟩ => ⟨S1x16x2048x2048, .f32⟩
  | .hbm, ⟨100, _⟩ => ⟨S1x16x2048x2048, .f32⟩
  | .hbm, ⟨101, _⟩ => ⟨S_, .f32⟩
  | .hbm, ⟨102, _⟩ => ⟨S1x16x2048, .f32⟩
  | .hbm, ⟨103, _⟩ => ⟨S_, .f32⟩
  | .hbm, ⟨104, _⟩ => ⟨S1x16x2048, .f32⟩
  | .hbm, ⟨105, _⟩ => ⟨S1x16x2048, .f32⟩
  | .hbm, ⟨106, _⟩ => ⟨S1x16x2048x1, .f32⟩
  | .hbm, ⟨107, _⟩ => ⟨S1x16x2048x2048, .f32⟩
  | .hbm, ⟨108, _⟩ => ⟨S1x16x2048x2048, .f32⟩
  | .hbm, ⟨109, _⟩ => ⟨S1x16x2048x2048, .f32⟩
  | .hbm, ⟨110, _⟩ => ⟨S_, .f32⟩
  | .hbm, ⟨111, _⟩ => ⟨S1x16x2048, .f32⟩
  | .hbm, ⟨112, _⟩ => ⟨S1x16x2048x1, .f32⟩
  | .hbm, ⟨113, _⟩ => ⟨S1x16x2048x2048, .f32⟩
  | .hbm, ⟨114, _⟩ => ⟨S1x16x2048x2048, .f32⟩
  | .hbm, ⟨115, _⟩ => ⟨S1x16x128x2048, .f32⟩
  | .hbm, ⟨116, _⟩ => ⟨S1x2048x16x128, .f32⟩
  | .hbm, ⟨117, _⟩ => ⟨S1x2048x2048, .f32⟩
  | .hbm, ⟨118, _⟩ => ⟨S2048x2048, .f32⟩
  | .hbm, ⟨119, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_5 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_6 : Ref sig .tc := ⟨.hbm, 92, rfl⟩
abbrev main_cst_7 : Ref sig .tc := ⟨.hbm, 93, rfl⟩
abbrev main_call0_v0 : Ref sig .tc := ⟨.hbm, 94, rfl⟩
abbrev main_call0_v1 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_8 : Ref sig .tc := ⟨.hbm, 101, rfl⟩
abbrev main_v80 : Ref sig .tc := ⟨.hbm, 102, rfl⟩
abbrev main_cst_9 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_10 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Proof.IdealAttnForms.lean ====
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! The attention call's step written plainly: the accumulator after a body, the output block, and how a list of stores, one head each, reads back. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

abbrev tbI : Memref sig .tc .smem S36 .i32 := Memref.whole main_c
abbrev tbJ : Memref sig .tc .smem S36 .i32 := Memref.whole main_c_0
abbrev scA : Memref sig .tc .vmem S16x256x129 .f32 := Memref.whole cc1_scratch0

abbrev wdI (T : S36.Idx → Elt F .i32) (i : grid1.Coords) : Elt F .i32 :=
  View.readAt (Elt F) tbI.view (Rect.unit (s := S36) (k1_off1 i) S1.size (k1_off1_inb i)).toLoadRect T (Shape.Idx.first (numel1_S1.symm ▸ Nat.one_pos))
abbrev wdJ (T : S36.Idx → Elt F .i32) (i : grid1.Coords) : Elt F .i32 :=
  View.readAt (Elt F) tbJ.view (Rect.unit (s := S36) (k1_off1 i) S1.size (k1_off1_inb i)).toLoadRect T (Shape.Idx.first (numel1_S1.symm ▸ Nat.one_pos))

abbrev isZero (w : BitVec 32) : Prop := Scalar.cmpi .ne (Scalar.extui (Scalar.cmpi .eq w 0#32)) 0#32 = 1#1

/-! ## The accumulator's step and the output block, written plainly -/

/-- Head `h` of a stack of 16 tables of 256 rows. -/
def aRect (h : Fin 16) : Rect S16x256x129 :=
  Rect.unit (s := S16x256x129) ![h.val, 0, 0] S1x256x129.size fun a => match a with
    | ⟨0, _⟩ => Nat.succ_le_of_lt h.isLt | ⟨1, _⟩ => le_refl _ | ⟨2, _⟩ => le_refl _ | ⟨_ + 3, hh⟩ => absurd hh (by simp)
def qRect (h : Fin 16) : Rect S16x256x192 :=
  Rect.unit (s := S16x256x192) ![h.val, 0, 0] S1x256x192.size fun a => match a with
    | ⟨0, _⟩ => Nat.succ_le_of_lt h.isLt | ⟨1, _⟩ => le_refl _ | ⟨2, _⟩ => le_refl _ | ⟨_ + 3, hh⟩ => absurd hh (by simp)
/-- Head `h`'s rows of key block `jw`, in the keys and in the values. -/
def kRect (jw : BitVec 32) (hw : k1_chk1 jw) (h : Fin 16) : Rect S16x2048x192 :=
  Rect.unit (s := S16x2048x192) ![h.val, (Scalar.indexCast (Scalar.muli jw 256#32)).toNat, 0] S1x256x192.size fun a => match a with
    | ⟨0, _⟩ => Nat.succ_le_of_lt h.isLt | ⟨1, _⟩ => hw.1 1 | ⟨2, _⟩ => le_refl _ | ⟨_ + 3, hh⟩ => absurd hh (by simp)
def vRect (jw : BitVec 32) (hw : k1_chk1 jw) (h : Fin 16) : Rect S16x2048x129 :=
  Rect.unit (s := S16x2048x129) ![h.val, (Scalar.indexCast (Scalar.muli jw 256#32)).toNat, 0] S1x256x129.size fun a => match a with
    | ⟨0, _⟩ => Nat.succ_le_of_lt h.isLt | ⟨1, _⟩ => hw.1 1 | ⟨2, _⟩ => le_refl _ | ⟨_ + 3, hh⟩ => absurd hh (by simp)

/-- The contents of a head's accumulator, or of the quotient's operand. -/
abbrev Tile (F : FTy → Type) := S1x256x129.Idx → Elt F .f32

/-- A place of the accumulator, as a place of its head's table. -/
def tl (y : S16x256x129.Idx) : S1x256x129.Idx := fun a => match a with
  | ⟨0, _⟩ => ⟨0, Nat.one_pos⟩
  | ⟨1, _⟩ => ⟨(y 1).val, (y 1).isLt⟩
  | ⟨2, _⟩ => ⟨(y 2).val, (y 2).isLt⟩
  | ⟨_ + 3, hh⟩ => absurd hh (by simp)

/-- What the body stores as head `h`'s accumulator, from what it held (`a`): the head's masked weights times the values,
    added to it. -/
def headOut (iw jw : BitVec 32) (hw : k1_chk1 jw) (q : S16x256x192.Idx → Elt F .bf16) (k : S16x2048x192.Idx → Elt F .bf16)
    (v : S16x2048x129.Idx → Elt F .bf16) (h : Fin 16) (a : Tile F) : Tile F :=
  k1_pay19 (k1_pay16 (F := F) iw jw) (View.ld q (qRect h)) (View.ld k (kRect jw hw h)) a (View.ld v (vRect jw hw h))

/-- The whole accumulator after the body, from what it held. -/
def accStep (iw jw : BitVec 32) (hw : k1_chk1 jw) (q : S16x256x192.Idx → Elt F .bf16) (k : S16x2048x192.Idx → Elt F .bf16)
    (v : S16x2048x129.Idx → Elt F .bf16) (a : S16x256x129.Idx → Elt F .f32) : S16x256x129.Idx → Elt F .f32 := fun y =>
  headOut iw jw hw q k v (y 0) (View.ld a (aRect (y 0))) (tl y)

/-- The output block from the heads' accumulators and the last projection's weights. -/
def outHeads (s : Fin 16 → Tile F) (w : S2048x2048.Idx → Elt F .bf16) : S256x2048.Idx → Elt F .f32 :=
  k1_pay3 (k1_pay2 (k1_pay4 (s 0)) (k1_pay5 (s 1)) (k1_pay6 (s 2)) (k1_pay7 (s 3)) (k1_pay8 (s 4)) (k1_pay9 (s 5)) (k1_pay10 (s 6)) (k1_pay11 (s 7))
    (k1_pay12 (s 8)) (k1_pay13 (s 9)) (k1_pay14 (s 10)) (k1_pay15 (s 11)) (s 12) (s 13) (s 14) (s 15))
    (View.ld w (Rect.unit (s := S2048x2048) ![0, 0] S2048x2048.size inb_S2048x2048_S2048x2048_0_0))

def outBlk (a : S16x256x129.Idx → Elt F .f32) (w : S2048x2048.Idx → Elt F .bf16) : S256x2048.Idx → Elt F .f32 :=
  outHeads (fun h => View.ld a (aRect h)) w

/-! ## Reading back a list of stores, one head each -/

abbrev Pc (F : FTy → Type) := View.Piece (Elt F) S16x256x129 .f32

/-- Stores of the heads below `n`, the newest first. -/
def heads (f : Fin 16 → Tile F) : (n : ℕ) → n ≤ 16 → List (Pc F)
  | 0, _ => []
  | n + 1, h => ⟨aRect ⟨n, h⟩, f ⟨n, h⟩⟩ :: heads f n (Nat.le_of_succ_le h)

/-- The same where each head's store is computed from what is read of that head before it, over the stores `T`. -/
def chain (G : Fin 16 → Tile F → Tile F) (T : List (Pc F)) : (n : ℕ) → n ≤ 16 → List (Pc F)
  | 0, _ => T
  | n + 1, h => ⟨aRect ⟨n, h⟩, G ⟨n, h⟩ (scA.view.readCov (chain G T n (Nat.le_of_succ_le h)) (aRect ⟨n, h⟩).toLoadRect)⟩ :: chain G T n (Nat.le_of_succ_le h)

theorem read_heads (f : Fin 16 → Tile F) (T : List (Pc F)) (g : scA.view.ty.Contents (Elt F)) (y : S16x256x129.Idx) :
    ∀ n (hn : n ≤ 16), scA.view.read (Elt F) (scA.view.writes (Elt F) g (heads f n hn ++ T)) y
      = if (y 0).val < n then f (y 0) (tl y) else scA.view.read (Elt F) (scA.view.writes (Elt F) g T) y
  | 0, _ => by simp [heads]
  | n + 1, hn => by
    by_cases e : (y 0).val = n
    · have e' : (⟨n, hn⟩ : Fin 16) = y 0 := Fin.ext e.symm
      rw [if_pos (by omega)]
      unfold heads
      rw [List.cons_append, e']
      refine View.read_writes_cons_hit_of_coords _ _ (aRect (y 0)) _ _ (tl y) y ?_
      intro a
      match a with
      | ⟨0, _⟩ => show (y 0).val = (y 0).val + 1 * 0; omega
      | ⟨1, _⟩ => show (y 1).val = 0 + 1 * (y 1).val; omega
      | ⟨2, _⟩ => show (y 2).val = 0 + 1 * (y 2).val; omega
      | ⟨_ + 3, hh⟩ => exact absurd hh (by simp)
    · unfold heads
      rw [List.cons_append, View.read_writes_cons_miss_of_axis _ _ _ _ y 0 n 1 rfl rfl rfl (by omega), read_heads f T g y n]
      by_cases l : (y 0).val < n
      · rw [if_pos l, if_pos (by omega)]
      · rw [if_neg l, if_neg (by omega)]

theorem chain_eq (G : Fin 16 → Tile F → Tile F) (T : List (Pc F)) : ∀ n (hn : n ≤ 16),
    chain G T n hn = heads (fun h => G h (scA.view.readCov T (aRect h).toLoadRect)) n hn ++ T
  | 0, _ => rfl
  | n + 1, hn => by
    unfold chain heads
    rw [chain_eq G T n, List.cons_append]
    have e : scA.view.readCov (heads (fun h => G h (scA.view.readCov T (aRect h).toLoadRect)) n (Nat.le_of_succ_le hn) ++ T) (aRect ⟨n, hn⟩).toLoadRect
        = scA.view.readCov T (aRect ⟨n, hn⟩).toLoadRect := by
      funext x
      refine (read_heads _ T _ ((aRect ⟨n, hn⟩).toLoadRect.idx x) n _).trans (if_neg ?_)
      have h1 : (((aRect ⟨n, hn⟩).toLoadRect.idx x) 0).val = n + 1 * (x 0).val := rfl
      omega
    rw [e]

/-- The stack of 16 stores holds, head by head, what was stored. -/
theorem read_heads16 (f : Fin 16 → Tile F) (T : List (Pc F)) (g : scA.view.ty.Contents (Elt F)) (y : S16x256x129.Idx) :
    scA.view.read (Elt F) (scA.view.writes (Elt F) g (heads f 16 le_rfl ++ T)) y = f (y 0) (tl y) :=
  (read_heads f T g y 16 le_rfl).trans (if_pos (y 0).isLt)

/-- A store of the whole accumulator, read back. -/
theorem readCov_full (z : S16x256x129.Idx → Elt F .f32) (r : Rect S16x256x129) :
    scA.view.readCov [⟨Rect.unit (s := S16x256x129) ![0, 0, 0] S16x256x129.size inb_S16x256x129_S16x256x129_0_0_0, z⟩] r.toLoadRect = View.ld z r := by
  funext x
  have h := View.read_writes_cons_hit_of_coords scA.view scA.view.junk (Rect.unit (s := S16x256x129) ![0, 0, 0] S16x256x129.size inb_S16x256x129_S16x256x129_0_0_0) z []
    (r.toLoadRect.idx x) (r.toLoadRect.idx x) (fun a => match a with
      | ⟨0, _⟩ => by show ((r.toLoadRect.idx x) 0).val = 0 + 1 * ((r.toLoadRect.idx x) 0).val; omega
      | ⟨1, _⟩ => by show ((r.toLoadRect.idx x) 1).val = 0 + 1 * ((r.toLoadRect.idx x) 1).val; omega
      | ⟨2, _⟩ => by show ((r.toLoadRect.idx x) 2).val = 0 + 1 * ((r.toLoadRect.idx x) 2).val; omega
      | ⟨_ + 3, hh⟩ => absurd hh (by simp))
  exact h

/-- A load of a head, read after the 16 stores. -/
theorem readCov_heads (f : Fin 16 → Tile F) (T : List (Pc F)) (h : Fin 16) :
    scA.view.readCov (heads f 16 le_rfl ++ T) (aRect h).toLoadRect = View.ld (fun y => f (y 0) (tl y)) (aRect h) := by
  funext x
  exact read_heads16 f T _ ((aRect h).toLoadRect.idx x)

/-- The output block's store, whole. -/
abbrev outPc (w : S256x2048.Idx → Elt F .f32) : List (View.Piece (Elt F) S256x2048 .f32) :=
  [⟨Rect.unit (s := S256x2048) ![0, 0] S256x2048.size inb_S256x2048_S256x2048_0_0, w⟩]
/-- The accumulator's store, whole. -/
abbrev fullPc (z : S16x256x129.Idx → Elt F .f32) : List (Pc F) :=
  [⟨Rect.unit (s := S16x256x129) ![0, 0, 0] S16x256x129.size inb_S16x256x129_S16x256x129_0_0_0, z⟩]

/-- Contents of the accumulator are what is read of them. -/
theorem scA_ext {f : scA.view.ty.Contents (Elt F)} {g : S16x256x129.Idx → Elt F .f32} (h : ∀ y, scA.view.read (Elt F) f y = g y) : f = g := funext h

/-- After a store of `z` and the 16 heads' stores computed from it, the accumulator holds one step from `z`. -/
theorem acc_chain (iw jw : BitVec 32) (hw : k1_chk1 jw) (q : S16x256x192.Idx → Elt F .bf16) (k : S16x2048x192.Idx → Elt F .bf16)
    (v : S16x2048x129.Idx → Elt F .bf16) (z : S16x256x129.Idx → Elt F .f32) (g : scA.view.ty.Contents (Elt F)) :
    scA.view.writes (Elt F) g (chain (headOut iw jw hw q k v) (fullPc z) 16 le_rfl) = accStep iw jw hw q k v z :=
  scA_ext fun y => by
    rw [chain_eq]
    refine (read_heads16 _ _ _ y).trans ?_
    rw [readCov_full]
    rfl
/-- The same from contents `z` that the heads were read from. -/
theorem acc_heads (iw jw : BitVec 32) (hw : k1_chk1 jw) (q : S16x256x192.Idx → Elt F .bf16) (k : S16x2048x192.Idx → Elt F .bf16)
    (v : S16x2048x129.Idx → Elt F .bf16) (z : S16x256x129.Idx → Elt F .f32) (g : scA.view.ty.Contents (Elt F)) :
    scA.view.writes (Elt F) g (heads (fun h => headOut iw jw hw q k v h (View.ld z (aRect h))) 16 le_rfl ++ []) = accStep iw jw hw q k v z :=
  scA_ext fun y => (read_heads16 _ _ _ y).trans rfl

/-- The output block that the heads read back from the stores give. -/
theorem out_chain (iw jw : BitVec 32) (hw : k1_chk1 jw) (q : S16x256x192.Idx → Elt F .bf16) (k : S16x2048x192.Idx → Elt F .bf16)
    (v : S16x2048x129.Idx → Elt F .bf16) (z : S16x256x129.Idx → Elt F .f32) (w : S2048x2048.Idx → Elt F .bf16) :
    outHeads (fun h => scA.view.readCov (chain (headOut iw jw hw q k v) (fullPc z) 16 le_rfl) (aRect h).toLoadRect) w = outBlk (accStep iw jw hw q k v z) w := by
  unfold outBlk
  refine congrArg (fun s => outHeads s w) (funext fun h => ?_)
  have e : (fun h => headOut iw jw hw q k v h (scA.view.readCov (fullPc z) (aRect h).toLoadRect)) = fun h => headOut iw jw hw q k v h (View.ld z (aRect h)) :=
    funext fun h => congrArg (headOut iw jw hw q k v h) (readCov_full z (aRect h))
  rw [chain_eq, e, readCov_heads]
  rfl
theorem out_heads (iw jw : BitVec 32) (hw : k1_chk1 jw) (q : S16x256x192.Idx → Elt F .bf16) (k : S16x2048x192.Idx → Elt F .bf16)
    (v : S16x2048x129.Idx → Elt F .bf16) (z : S16x256x129.Idx → Elt F .f32) (w : S2048x2048.Idx → Elt F .bf16) :
    outHeads (fun h => scA.view.readCov (heads (fun h => headOut iw jw hw q k v h (View.ld z (aRect h))) 16 le_rfl ++ []) (aRect h).toLoadRect) w
      = outBlk (accStep iw jw hw q k v z) w := by
  unfold outBlk
  refine congrArg (fun s => outHeads s w) (funext fun h => ?_)
  rw [readCov_heads]
  rfl

theorem read_out {v : View sig .tc .vmem S256x2048 .f32} (f : v.ty.Contents (Elt F)) (w : S256x2048.Idx → Elt F .f32) :
    v.read (Elt F) (v.writes (Elt F) f (outPc w)) = w := by
  funext y
  refine View.read_writes_cons_hit_of_coords _ _ (Rect.unit (s := S256x2048) ![0, 0] S256x2048.size inb_S256x2048_S256x2048_0_0) w [] y _ ?_
  intro a
  match a with
  | ⟨0, _⟩ => show (y 0).val = 0 + 1 * (y 0).val; omega
  | ⟨1, _⟩ => show (y 1).val = 0 + 1 * (y 1).val; omega
  | ⟨_ + 2, hh⟩ => exact absurd hh (by simp)

end Cert.KernelIdeal.Attn

end
-- ==== Proof.IdealAttnRun.lean ====
module

public import proofs.«01_k».proof.Proof.Gen.KernelIdeal.Skeleton
public import proofs.«01_k».proof.Proof.IdealAttnForms
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! The attention call's body, executed on each of its four paths, and what it leaves written plainly. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option backward.proofsInPublic true in
set_option maxHeartbeats 8000000 in
/-- The body where the key block is the first and the last of its row of blocks: what it leaves in the accumulator and in the output block, found by executing it. -/
noncomputable def runA (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : k1_cond2 (wdI T0 i) (wdJ T1 i) = 1#1) :
    Σ' (out0 : List (View.Piece (Elt F) S256x2048 .f32)), { out1 : Buf (Elt F) ((c : Thread nD τ).loc cc1_scratch0) //
      ∀ (xa : Buf (Elt F) ((c : Thread nD τ).loc cc1_scratch0)) (K : PUnit → sProp 𝕄),
        iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
          ∗ (∃ d, owns (c : Thread nD τ) arg7 fullShare d)
          ∗ (scA.view.loc (c : Thread nD τ) ↦{fullShare} xa)
          ∗ (iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
              ∗ (∃ f, arg7.view.loc (c : Thread nD τ) ↦[arg7.view.set]{fullShare} arg7.view.writes (Elt F) f out0)
              ∗ (scA.view.loc (c : Thread nD τ) ↦{fullShare} out1)) -∗ K ⟨⟩))
          ⊢ wp frame (wpE (defs₀ (F := F)) Variants.none c none) Set.univ (cc1__attn_kernel i tbI (Memref.isWhole_whole _) tbJ (Memref.isWhole_whole _) arg3 harg3 arg4 harg4 arg5 harg5 arg6 harg6 arg7 harg7 scA (Memref.isWhole_whole _)) K } :=
  ⟨_, _, fun (xa : Buf (Elt F) ((c : Thread nD τ).loc cc1_scratch0)) K => by
    unfold owns
    rw [cc1__attn_kernel_eq_skeleton]; unfold cc1__attn_kernel_skel
    iintro ⟨H0, H1, H2, H3, HT0, HT1, ⟨%d4, %f4, -, HO4⟩, HS0, Hk⟩

    have hS0 : scA.IsWhole := Memref.isWhole_whole _
    have hT0 : tbI.IsWhole := Memref.isWhole_whole _
    have hT1 : tbJ.IsWhole := Memref.isWhole_whole _
    sl_exec! (disch := first | (guard_target = k1_chk1 _; exact hw) | (guard_target = Scalar.cmpi = _; exact hz) | (guard_target = k1_cond2 _ _ = _; exact hf))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; iexact HO4

    iexact HS0⟩

/-- The accumulator's stores on this path, as a list. -/
theorem runA_stores (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : k1_cond2 (wdI T0 i) (wdJ T1 i) = 1#1) :
    (runA c i arg3 harg3 arg4 harg4 arg5 harg5 arg6 harg6 arg7 harg7 T0 T1 x0 x1 x2 x3 hw hz hf).2.1 = scA.view.writes (Elt F) scA.view.junk (chain (headOut (wdI T0 i) (wdJ T1 i) hw (arg3.view.read (Elt F) x0) (arg4.view.read (Elt F) x1) (arg5.view.read (Elt F) x2)) (fullPc (k1_pay17 (F := F))) 16 le_rfl) := by
  sl_kernel_rfl

/-- The output's store on this path. -/
theorem runA_outs (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : k1_cond2 (wdI T0 i) (wdJ T1 i) = 1#1) :
    (runA c i arg3 harg3 arg4 harg4 arg5 harg5 arg6 harg6 arg7 harg7 T0 T1 x0 x1 x2 x3 hw hz hf).1 = outPc (outHeads (fun h => scA.view.readCov (chain (headOut (wdI T0 i) (wdJ T1 i) hw (arg3.view.read (Elt F) x0) (arg4.view.read (Elt F) x1) (arg5.view.read (Elt F) x2)) (fullPc (k1_pay17 (F := F))) 16 le_rfl) (aRect h).toLoadRect) (arg6.view.read (Elt F) x3)) := by
  sl_kernel_rfl

set_option backward.proofsInPublic true in
set_option maxHeartbeats 8000000 in
/-- The body where the key block is the first and not the last of its row of blocks: what it leaves in the accumulator, found by executing it. -/
noncomputable def runB (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : ¬(k1_cond2 (wdI T0 i) (wdJ T1 i) = 1#1)) :
    { out1 : Buf (Elt F) ((c : Thread nD τ).loc cc1_scratch0) //
      ∀ (xa : Buf (Elt F) ((c : Thread nD τ).loc cc1_scratch0)) (y4 : (S256x2048.Idx → Elt F .f32)) (K : PUnit → sProp 𝕄),
        iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
          ∗ owns (c : Thread nD τ) arg7 fullShare y4
          ∗ (scA.view.loc (c : Thread nD τ) ↦{fullShare} xa)
          ∗ (iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
              ∗ owns (c : Thread nD τ) arg7 fullShare y4
              ∗ (scA.view.loc (c : Thread nD τ) ↦{fullShare} out1)) -∗ K ⟨⟩))
          ⊢ wp frame (wpE (defs₀ (F := F)) Variants.none c none) Set.univ (cc1__attn_kernel i tbI (Memref.isWhole_whole _) tbJ (Memref.isWhole_whole _) arg3 harg3 arg4 harg4 arg5 harg5 arg6 harg6 arg7 harg7 scA (Memref.isWhole_whole _)) K } :=
  ⟨_, fun (xa : Buf (Elt F) ((c : Thread nD τ).loc cc1_scratch0)) (y4 : (S256x2048.Idx → Elt F .f32)) K => by
    unfold owns
    rw [cc1__attn_kernel_eq_skeleton]; unfold cc1__attn_kernel_skel
    iintro ⟨H0, H1, H2, H3, HT0, HT1, ⟨%f4, %hf4, HO4⟩, HS0, Hk⟩
    obtain rfl := harg7.eq_unread hf4
    have hS0 : scA.IsWhole := Memref.isWhole_whole _
    have hT0 : tbI.IsWhole := Memref.isWhole_whole _
    have hT1 : tbJ.IsWhole := Memref.isWhole_whole _
    sl_exec! (disch := first | (guard_target = k1_chk1 _; exact hw) | (guard_target = Scalar.cmpi = _; exact hz) | (guard_target = ¬(k1_cond2 _ _ = _); exact hf))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    iexact HS0⟩

/-- The accumulator's stores on this path, as a list. -/
theorem runB_stores (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : ¬(k1_cond2 (wdI T0 i) (wdJ T1 i) = 1#1)) :
    (runB c i arg3 harg3 arg4 harg4 arg5 harg5 arg6 harg6 arg7 harg7 T0 T1 x0 x1 x2 x3 hw hz hf).1 = scA.view.writes (Elt F) scA.view.junk (chain (headOut (wdI T0 i) (wdJ T1 i) hw (arg3.view.read (Elt F) x0) (arg4.view.read (Elt F) x1) (arg5.view.read (Elt F) x2)) (fullPc (k1_pay17 (F := F))) 16 le_rfl) := by
  sl_kernel_rfl

set_option backward.proofsInPublic true in
set_option maxHeartbeats 8000000 in
/-- The body where the key block is not the first and the last of its row of blocks: what it leaves in the accumulator and in the output block, found by executing it. -/
noncomputable def runC (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : k1_cond2 (wdI T0 i) (wdJ T1 i) = 1#1) :
    Σ' (out0 : List (View.Piece (Elt F) S256x2048 .f32)), { out1 : Buf (Elt F) ((c : Thread nD τ).loc cc1_scratch0) //
      ∀ (K : PUnit → sProp 𝕄),
        iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
          ∗ (∃ d, owns (c : Thread nD τ) arg7 fullShare d)
          ∗ (scA.view.loc (c : Thread nD τ) ↦{fullShare} xa)
          ∗ (iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
              ∗ (∃ f, arg7.view.loc (c : Thread nD τ) ↦[arg7.view.set]{fullShare} arg7.view.writes (Elt F) f out0)
              ∗ (scA.view.loc (c : Thread nD τ) ↦{fullShare} out1)) -∗ K ⟨⟩))
          ⊢ wp frame (wpE (defs₀ (F := F)) Variants.none c none) Set.univ (cc1__attn_kernel i tbI (Memref.isWhole_whole _) tbJ (Memref.isWhole_whole _) arg3 harg3 arg4 harg4 arg5 harg5 arg6 harg6 arg7 harg7 scA (Memref.isWhole_whole _)) K } :=
  ⟨_, _, fun K => by
    unfold owns
    rw [cc1__attn_kernel_eq_skeleton]; unfold cc1__attn_kernel_skel
    iintro ⟨H0, H1, H2, H3, HT0, HT1, ⟨%d4, %f4, -, HO4⟩, HS0, Hk⟩

    have hS0 : scA.IsWhole := Memref.isWhole_whole _
    have hT0 : tbI.IsWhole := Memref.isWhole_whole _
    have hT1 : tbJ.IsWhole := Memref.isWhole_whole _
    sl_exec! (disch := first | (guard_target = k1_chk1 _; exact hw) | (guard_target = ¬(Scalar.cmpi = _); exact hz) | (guard_target = k1_cond2 _ _ = _; exact hf))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; iexact HO4

    iexact HS0⟩

/-- The accumulator's stores on this path, as a list. -/
theorem runC_stores (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : k1_cond2 (wdI T0 i) (wdJ T1 i) = 1#1) :
    (runC c i arg3 harg3 arg4 harg4 arg5 harg5 arg6 harg6 arg7 harg7 T0 T1 x0 x1 x2 x3 xa hw hz hf).2.1 = scA.view.writes (Elt F) scA.view.junk (heads (fun h => (headOut (wdI T0 i) (wdJ T1 i) hw (arg3.view.read (Elt F) x0) (arg4.view.read (Elt F) x1) (arg5.view.read (Elt F) x2)) h (View.ld xa (aRect h))) 16 le_rfl ++ []) := by
  sl_kernel_rfl

/-- The output's store on this path. -/
theorem runC_outs (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : k1_cond2 (wdI T0 i) (wdJ T1 i) = 1#1) :
    (runC c i arg3 harg3 arg4 harg4 arg5 harg5 arg6 harg6 arg7 harg7 T0 T1 x0 x1 x2 x3 xa hw hz hf).1 = outPc (outHeads (fun h => scA.view.readCov (heads (fun h => (headOut (wdI T0 i) (wdJ T1 i) hw (arg3.view.read (Elt F) x0) (arg4.view.read (Elt F) x1) (arg5.view.read (Elt F) x2)) h (View.ld xa (aRect h))) 16 le_rfl ++ []) (aRect h).toLoadRect) (arg6.view.read (Elt F) x3)) := by
  sl_kernel_rfl

set_option backward.proofsInPublic true in
set_option maxHeartbeats 8000000 in
/-- The body where the key block is not the first and not the last of its row of blocks: what it leaves in the accumulator, found by executing it. -/
noncomputable def runD (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : ¬(k1_cond2 (wdI T0 i) (wdJ T1 i) = 1#1)) :
    { out1 : Buf (Elt F) ((c : Thread nD τ).loc cc1_scratch0) //
      ∀ (y4 : (S256x2048.Idx → Elt F .f32)) (K : PUnit → sProp 𝕄),
        iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
          ∗ owns (c : Thread nD τ) arg7 fullShare y4
          ∗ (scA.view.loc (c : Thread nD τ) ↦{fullShare} xa)
          ∗ (iprop((arg3.view.loc (c : Thread nD τ) ↦[arg3.view.set]{fullShare} x0)
          ∗ (arg4.view.loc (c : Thread nD τ) ↦[arg4.view.set]{fullShare} x1)
          ∗ (arg5.view.loc (c : Thread nD τ) ↦[arg5.view.set]{fullShare} x2)
          ∗ (arg6.view.loc (c : Thread nD τ) ↦[arg6.view.set]{fullShare} x3)
          ∗ (tbI.view.loc (c : Thread nD τ) ↦{fullShare} T0)
          ∗ (tbJ.view.loc (c : Thread nD τ) ↦{fullShare} T1)
              ∗ owns (c : Thread nD τ) arg7 fullShare y4
              ∗ (scA.view.loc (c : Thread nD τ) ↦{fullShare} out1)) -∗ K ⟨⟩))
          ⊢ wp frame (wpE (defs₀ (F := F)) Variants.none c none) Set.univ (cc1__attn_kernel i tbI (Memref.isWhole_whole _) tbJ (Memref.isWhole_whole _) arg3 harg3 arg4 harg4 arg5 harg5 arg6 harg6 arg7 harg7 scA (Memref.isWhole_whole _)) K } :=
  ⟨_, fun (y4 : (S256x2048.Idx → Elt F .f32)) K => by
    unfold owns
    rw [cc1__attn_kernel_eq_skeleton]; unfold cc1__attn_kernel_skel
    iintro ⟨H0, H1, H2, H3, HT0, HT1, ⟨%f4, %hf4, HO4⟩, HS0, Hk⟩
    obtain rfl := harg7.eq_unread hf4
    have hS0 : scA.IsWhole := Memref.isWhole_whole _
    have hT0 : tbI.IsWhole := Memref.isWhole_whole _
    have hT1 : tbJ.IsWhole := Memref.isWhole_whole _
    sl_exec! (disch := first | (guard_target = k1_chk1 _; exact hw) | (guard_target = ¬(Scalar.cmpi = _); exact hz) | (guard_target = ¬(k1_cond2 _ _ = _); exact hf))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    iexact HS0⟩

/-- The accumulator's stores on this path, as a list. -/
theorem runD_stores (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : ¬(k1_cond2 (wdI T0 i) (wdJ T1 i) = 1#1)) :
    (runD c i arg3 harg3 arg4 harg4 arg5 harg5 arg6 harg6 arg7 harg7 T0 T1 x0 x1 x2 x3 xa hw hz hf).1 = scA.view.writes (Elt F) scA.view.junk (heads (fun h => (headOut (wdI T0 i) (wdJ T1 i) hw (arg3.view.read (Elt F) x0) (arg4.view.read (Elt F) x1) (arg5.view.read (Elt F) x2)) h (View.ld xa (aRect h))) 16 le_rfl ++ []) := by
  sl_kernel_rfl

end Cert.KernelIdeal.Attn

end
-- ==== Proof.IdealAttnPaths.lean ====
module

public import proofs.«01_k».proof.Proof.Gen.KernelIdeal.Skeleton
public import proofs.«01_k».proof.Proof.IdealAttnRun
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! What the attention call's body leaves on each of its four paths, as one step of the accumulator and one output block. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The accumulator after this path: one step. -/
theorem runA_acc (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : k1_cond2 (wdI T0 i) (wdJ T1 i) = 1#1) :
    (runA c i arg3 harg3 arg4 harg4 arg5 harg5 arg6 harg6 arg7 harg7 T0 T1 x0 x1 x2 x3 hw hz hf).2.1 = accStep (wdI T0 i) (wdJ T1 i) hw (arg3.view.read (Elt F) x0) (arg4.view.read (Elt F) x1) (arg5.view.read (Elt F) x2) (k1_pay17 (F := F)) :=
  (runA_stores c i arg3 harg3 arg4 harg4 arg5 harg5 arg6 harg6 arg7 harg7 T0 T1 x0 x1 x2 x3 hw hz hf).trans (acc_chain _ _ hw _ _ _ _ _)

/-- The output's store on this path: the block that the accumulator gives. -/
theorem runA_out (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : k1_cond2 (wdI T0 i) (wdJ T1 i) = 1#1) :
    (runA c i arg3 harg3 arg4 harg4 arg5 harg5 arg6 harg6 arg7 harg7 T0 T1 x0 x1 x2 x3 hw hz hf).1 = outPc (outBlk (accStep (wdI T0 i) (wdJ T1 i) hw (arg3.view.read (Elt F) x0) (arg4.view.read (Elt F) x1) (arg5.view.read (Elt F) x2) (k1_pay17 (F := F))) (arg6.view.read (Elt F) x3)) :=
  (runA_outs c i arg3 harg3 arg4 harg4 arg5 harg5 arg6 harg6 arg7 harg7 T0 T1 x0 x1 x2 x3 hw hz hf).trans (congrArg outPc (out_chain _ _ hw _ _ _ _ _))

/-- The accumulator after this path: one step. -/
theorem runB_acc (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ)))
    (hw : k1_chk1 (wdJ T1 i)) (hz : isZero (wdJ T1 i)) (hf : ¬(k1_cond2 (wdI T0 i) (wdJ T1 i) = 1#1)) :
    (runB c i arg3 harg3 arg4 harg4 arg5 harg5 arg6 harg6 arg7 harg7 T0 T1 x0 x1 x2 x3 hw hz hf).1 = accStep (wdI T0 i) (wdJ T1 i) hw (arg3.view.read (Elt F) x0) (arg4.view.read (Elt F) x1) (arg5.view.read (Elt F) x2) (k1_pay17 (F := F)) :=
  (runB_stores c i arg3 harg3 arg4 harg4 arg5 harg5 arg6 harg6 arg7 harg7 T0 T1 x0 x1 x2 x3 hw hz hf).trans (acc_chain _ _ hw _ _ _ _ _)

/-- The accumulator after this path: one step. -/
theorem runC_acc (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : k1_cond2 (wdI T0 i) (wdJ T1 i) = 1#1) :
    (runC c i arg3 harg3 arg4 harg4 arg5 harg5 arg6 harg6 arg7 harg7 T0 T1 x0 x1 x2 x3 xa hw hz hf).2.1 = accStep (wdI T0 i) (wdJ T1 i) hw (arg3.view.read (Elt F) x0) (arg4.view.read (Elt F) x1) (arg5.view.read (Elt F) x2) xa :=
  (runC_stores c i arg3 harg3 arg4 harg4 arg5 harg5 arg6 harg6 arg7 harg7 T0 T1 x0 x1 x2 x3 xa hw hz hf).trans (acc_heads _ _ hw _ _ _ _ _)

/-- The output's store on this path: the block that the accumulator gives. -/
theorem runC_out (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : k1_cond2 (wdI T0 i) (wdJ T1 i) = 1#1) :
    (runC c i arg3 harg3 arg4 harg4 arg5 harg5 arg6 harg6 arg7 harg7 T0 T1 x0 x1 x2 x3 xa hw hz hf).1 = outPc (outBlk (accStep (wdI T0 i) (wdJ T1 i) hw (arg3.view.read (Elt F) x0) (arg4.view.read (Elt F) x1) (arg5.view.read (Elt F) x2) xa) (arg6.view.read (Elt F) x3)) :=
  (runC_outs c i arg3 harg3 arg4 harg4 arg5 harg5 arg6 harg6 arg7 harg7 T0 T1 x0 x1 x2 x3 xa hw hz hf).trans (congrArg outPc (out_heads _ _ hw _ _ _ _ _))

/-- The accumulator after this path: one step. -/
theorem runD_acc (c : Dev nD) (i : grid1.Coords) (arg3 : Memref sig .tc .vmem S16x256x192 .bf16) (harg3 : arg3.IsWhole) (arg4 : Memref sig .tc .vmem S16x2048x192 .bf16) (harg4 : arg4.IsWhole)
    (arg5 : Memref sig .tc .vmem S16x2048x129 .bf16) (harg5 : arg5.IsWhole) (arg6 : Memref sig .tc .vmem S2048x2048 .bf16) (harg6 : arg6.IsWhole) (arg7 : Memref sig .tc .vmem S256x2048 .f32) (harg7 : arg7.IsWhole)
    (T0 T1 : S36.Idx → Elt F .i32)
    (x0 : Buf (Elt F) (arg3.view.loc (c : Thread nD τ))) (x1 : Buf (Elt F) (arg4.view.loc (c : Thread nD τ)))
    (x2 : Buf (Elt F) (arg5.view.loc (c : Thread nD τ))) (x3 : Buf (Elt F) (arg6.view.loc (c : Thread nD τ))) (xa : Buf (Elt F) ((c : Thread nD τ).loc cc1_scratch0))
    (hw : k1_chk1 (wdJ T1 i)) (hz : ¬isZero (wdJ T1 i)) (hf : ¬(k1_cond2 (wdI T0 i) (wdJ T1 i) = 1#1)) :
    (runD c i arg3 harg3 arg4 harg4 arg5 harg5 arg6 harg6 arg7 harg7 T0 T1 x0 x1 x2 x3 xa hw hz hf).1 = accStep (wdI T0 i) (wdJ T1 i) hw (arg3.view.read (Elt F) x0) (arg4.view.read (Elt F) x1) (arg5.view.read (Elt F) x2) xa :=
  (runD_stores c i arg3 harg3 arg4 harg4 arg5 harg5 arg6 harg6 arg7 harg7 T0 T1 x0 x1 x2 x3 xa hw hz hf).trans (acc_heads _ _ hw _ _ _ _ _)

end Cert.KernelIdeal.Attn

end
-- ==== Proof.IdealAttn.lean ====
module

public import proofs.«01_k».proof.Proof.Gen.KernelIdeal.Skeleton
public import proofs.«01_k».proof.Proof.IdealAttnForms
public import proofs.«01_k».proof.Proof.IdealAttnPaths
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! The attention call's pipeline: the two tables that its control reads, what the accumulator and the output block hold after
    each of its 36 points, and the body obligation, for any contents `W` that the region finds in the arrays. -/

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The tables -/

/-- The query block of each point, and its key block. -/
def tabI : S36.Idx → Elt F .i32 := fun i => lit0 (S36.rowMajor i)
def tabJ : S36.Idx → Elt F .i32 := fun i => lit1 (S36.rowMajor i)

set_option backward.proofsInPublic true in
/-- The tables' contents. -/
def pf : pre1.Contents (Elt F) := fun
  | ⟨0, _⟩ => tabI
  | ⟨1, _⟩ => tabJ
  | ⟨_ + 2, h⟩ => absurd h (by simp)

theorem inb0 : ∀ i : grid1.Coords, ∀ a, (cc1_transform_0 k1_off1_inb numel1_S1 (pf (F := F)) i a + 1) * S16x256x192.size a ≤ S16x2048x192.size a :=
  of_decide_eq_true (by sl_kernel_rfl)
theorem inb4 : ∀ i : grid1.Coords, ∀ a, (cc1_transform_4 k1_off1_inb numel1_S1 (pf (F := F)) i a + 1) * S256x2048.size a ≤ S2048x2048.size a :=
  of_decide_eq_true (by sl_kernel_rfl)

/-- The windows that the first table moves stay inside their arrays. -/
theorem ok_pf : ok1 (F := F) pf :=
  ⟨fun i => ⟨inb0 i, .inr (Affine.block_words_dvd (s := S16x2048x192) (p := EltTy.packing .bf16) (by decide) (by decide))⟩,
    fun i => ⟨inb4 i, .inl rfl⟩⟩

/-- The tables, as contents that the pipeline runs at, and the pipeline at them. -/
def adm : (pcfg1 (F := F)).Adm := ⟨pf, ok_pf⟩
abbrev cfgA : Pipeline.Cfg sig Λ₀ := cfg1 (F := F) adm

/-- Point `t`'s coordinates. -/
abbrev crd (t : Fin (cfgA (F := F)).N) : grid1.Coords := (cfgA (F := F)).grid.coords t

/-- The query block and the key block of point `t`, as the body reads them. -/
abbrev iw (t : Fin (cfgA (F := F)).N) : BitVec 32 := wdI (F := F) tabI (crd t)
abbrev jw (t : Fin (cfgA (F := F)).N) : BitVec 32 := wdJ (F := F) tabJ (crd t)

theorem chk : ∀ t : Fin (cfgA (F := F)).N, k1_chk1 (jw t) := of_decide_eq_true (by sl_kernel_rfl)
theorem zero_first : ∀ t : Fin (cfgA (F := F)).N, t.val = 0 → isZero (jw t) := of_decide_eq_true (by sl_kernel_rfl)
/-- The output block is stored, and written back, at a row's last key block only. -/
theorem sched_fin : ∀ t : Fin (cfgA (F := F)).N, k1_cond2 (iw t) (jw t) = 1#1 →
    (cfgA (F := F)).idle (4 : Fin 5) (crd t) = false ∧ ((cfgA (F := F)).win (4 : Fin 5)).flush t = true := of_decide_eq_true (by sl_kernel_rfl)
theorem sched_run : ∀ t : Fin (cfgA (F := F)).N, ¬(k1_cond2 (iw t) (jw t) = 1#1) →
    (cfgA (F := F)).idle (4 : Fin 5) (crd t) = true ∧ ((cfgA (F := F)).win (4 : Fin 5)).flush t = false := of_decide_eq_true (by sl_kernel_rfl)

/-- So before every point the output's buffer holds nothing that a point has left. -/
theorem fresh (n : ℕ) (h : n ≤ (cfgA (F := F)).N) : (cfgA (F := F)).fresh (4 : Fin 5) n = true :=
  Pipeline.Cfg.fresh_tab (cfgA (F := F)) (4 : Fin 5) (fun _ => true) rfl (fun t => by
    by_cases q : k1_cond2 (iw t) (jw t) = 1#1
    · rw [(sched_fin t q).2]; rfl
    · rw [(sched_run t q).2, show (cfgA (F := F)).idle (4 : Fin 5) ((cfgA (F := F)).grid.coords t) = true from (sched_run t q).1]; rfl) n h

/-! ## Staging buffers and blocks -/

abbrev ms0 (t : Fin (cfgA (F := F)).N) : Memref sig .tc .vmem S16x256x192 .bf16 := spec1_0.stage ((cfgA (F := F)).slots t (0 : Fin 5))
abbrev hs0 (t : Fin (cfgA (F := F)).N) : (ms0 t).IsWhole := hstage1_0 (((cfgA (F := F)).slots t (0 : Fin 5)).cast nbuf1_0)
abbrev ms1 (t : Fin (cfgA (F := F)).N) : Memref sig .tc .vmem S16x2048x192 .bf16 := spec1_1.stage ((cfgA (F := F)).slots t (1 : Fin 5))
abbrev hs1 (t : Fin (cfgA (F := F)).N) : (ms1 t).IsWhole := hstage1_1 (((cfgA (F := F)).slots t (1 : Fin 5)).cast nbuf1_1)
abbrev ms2 (t : Fin (cfgA (F := F)).N) : Memref sig .tc .vmem S16x2048x129 .bf16 := spec1_2.stage ((cfgA (F := F)).slots t (2 : Fin 5))
abbrev hs2 (t : Fin (cfgA (F := F)).N) : (ms2 t).IsWhole := hstage1_2 (((cfgA (F := F)).slots t (2 : Fin 5)).cast nbuf1_2)
abbrev ms3 (t : Fin (cfgA (F := F)).N) : Memref sig .tc .vmem S2048x2048 .bf16 := spec1_3.stage ((cfgA (F := F)).slots t (3 : Fin 5))
abbrev hs3 (t : Fin (cfgA (F := F)).N) : (ms3 t).IsWhole := hstage1_3 (((cfgA (F := F)).slots t (3 : Fin 5)).cast nbuf1_3)
abbrev ms4 (t : Fin (cfgA (F := F)).N) : Memref sig .tc .vmem S256x2048 .f32 := spec1_4.stage ((cfgA (F := F)).slots t (4 : Fin 5))
abbrev hs4 (t : Fin (cfgA (F := F)).N) : (ms4 t).IsWhole := hstage1_4 (((cfgA (F := F)).slots t (4 : Fin 5)).cast nbuf1_4)

/-- The body at point `t`, as the pipeline calls it. -/
abbrev bodyAt (t : Fin (cfgA (F := F)).N) : Prog (TpuEff nD τ sig (Elt F) Λ₀ .tc) PUnit :=
  cc1__attn_kernel (F := F) (crd t) tbI (Memref.isWhole_whole _) tbJ (Memref.isWhole_whole _) (ms0 t) (hs0 t) (ms1 t) (hs1 t) (ms2 t) (hs2 t) (ms3 t) (hs3 t) (ms4 t) (hs4 t) scA (Memref.isWhole_whole _)

-- the contents of core `c`'s buffers when the region is entered
variable (W : (c : Dev nD) → (b : Ref sig .tc) → Buf (Elt F) ((c : Thread nD τ).loc b))

/-- Window `w`'s block at point `t`, read off its array as the region finds it. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (W c (Pipeline.arrRef spec1 w))

/-! ## What the accumulator and the output block hold after each point -/

/-- The accumulator after point `t`, from what it held before: started again from zero at a row's first key block. -/
def stepAt (c : Dev nD) (t : Fin (cfgA (F := F)).N) (a : S16x256x129.Idx → Elt F .f32) : S16x256x129.Idx → Elt F .f32 :=
  accStep (iw t) (jw t) (chk t) (iblk W c (0 : Fin 5) t) (iblk W c (1 : Fin 5) t) (iblk W c (2 : Fin 5) t) (if isZero (jw t) then k1_pay17 (F := F) else a)

/-- The accumulator after position `n`. -/
def acc (c : Dev nD) : (n : ℕ) → n < (cfgA (F := F)).N → (S16x256x129.Idx → Elt F .f32)
  | 0, h => stepAt W c ⟨0, h⟩ (k1_pay17 (F := F))
  | n + 1, h => stepAt W c ⟨n + 1, h⟩ (acc c n (Nat.lt_of_succ_lt h))

/-- The accumulator before position `n`. -/
def accB (c : Dev nD) (n : ℕ) (h : n ≤ (cfgA (F := F)).N) : S16x256x129.Idx → Elt F .f32 :=
  if h0 : n = 0 then k1_pay17 (F := F) else acc W c (n - 1) (by omega)

theorem acc_eq (c : Dev nD) (t : Fin (cfgA (F := F)).N) : acc W c t.val t.isLt = stepAt W c t (accB W c t.val t.isLt.le) := by
  obtain ⟨n, hn⟩ := t
  cases n with
  | zero => rfl
  | succ n => unfold accB; simp only [Nat.add_one_ne_zero, dif_neg, not_false_eq_true]; rfl

theorem accB_succ (c : Dev nD) (n : ℕ) (h : n + 1 ≤ (cfgA (F := F)).N) : accB W c (n + 1) h = acc W c n h := by
  unfold accB; simp only [Nat.add_one_ne_zero, dif_neg, not_false_eq_true, Nat.add_one_sub_one]

/-- Any contents will do where the accumulator is started again. -/
theorem acc_zero (c : Dev nD) (t : Fin (cfgA (F := F)).N) (q : isZero (jw t)) :
    acc W c t.val t.isLt = accStep (iw t) (jw t) (chk t) (iblk W c (0 : Fin 5) t) (iblk W c (1 : Fin 5) t) (iblk W c (2 : Fin 5) t) (k1_pay17 (F := F)) := by
  rw [acc_eq]; unfold stepAt; rw [if_pos q]
theorem acc_more (c : Dev nD) (t : Fin (cfgA (F := F)).N) (q : ¬isZero (jw t)) :
    acc W c t.val t.isLt = accStep (iw t) (jw t) (chk t) (iblk W c (0 : Fin 5) t) (iblk W c (1 : Fin 5) t) (iblk W c (2 : Fin 5) t) (accB W c t.val t.isLt.le) := by
  rw [acc_eq]; unfold stepAt; rw [if_neg q]

/-! ## The pipeline's proof data -/

/-- The scoped buffers that no window of the attention stages: the accumulator and the projection's staging buffers. -/
theorem others_ex (c : Dev nD) : ∃ Q : sProp 𝕄,
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ Q) :=
  ⟨_, Pipeline.scopedRest_eq_of_list spec1 c [cc1_scratch0, cc0_stg0_0, cc0_stg0_1, cc0_stg1_0, cc0_stg1_1, cc0_stg2_0, cc0_stg2_1, cc0_stg3_0, cc0_stg4_0, cc0_stg5_0, cc0_stg6_0, cc0_stg7_0, cc0_stg8_0, cc0_stg9_0, cc0_stg9_1, cc0_stg10_0, cc0_stg10_1, cc0_stg11_0, cc0_stg11_1] (by decide) (by decide)⟩

/-- The projection's staging buffers, which the attention leaves alone. -/
def others (c : Dev nD) : sProp 𝕄 := (others_ex (F := F) c).choose

theorem rest_eq (c : Dev nD) : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others c) :=
  (others_ex (F := F) c).choose_spec

/-- Before position `n`: the accumulator as the points so far have left it, the tables, and the projection's staging buffers. -/
def Phi (c : Dev nD) (t : Fin ((cfgA (F := F)).N + 1)) : sProp 𝕄 :=
  iprop((∃ a, ⌜t.val ≠ 0 → a = accB W c t.val (Nat.lt_succ_iff.mp t.isLt)⌝ ∗ (scA.view.loc (c : Thread nD τ) ↦{fullShare} a))
    ∗ (tbI.view.loc (c : Thread nD τ) ↦{fullShare} tabI (F := F)) ∗ (tbJ.view.loc (c : Thread nD τ) ↦{fullShare} tabJ (F := F)) ∗ others c)

/-- The proof data: the arrays as the region finds them; the output block after a row's last key block. -/
def dat (c : Dev nD) : Dat τ (Elt F) Unit ℕ (UR sig nD τ) ℕ (cfgA (F := F)) c where
  A w := W c (Pipeline.arrRef spec1 w)
  after w t := match w with
    | ⟨0, _⟩ => iblk W c (0 : Fin 5) t
    | ⟨1, _⟩ => iblk W c (1 : Fin 5) t
    | ⟨2, _⟩ => iblk W c (2 : Fin 5) t
    | ⟨3, _⟩ => iblk W c (3 : Fin 5) t
    | ⟨4, _⟩ => outBlk (acc W c t.val t.isLt) (iblk W c (3 : Fin 5) t)
  Φ t := Phi W c t
  q _ := fullShare
  owed _ := 0

theorem after0 (c : Dev nD) (t : Fin (cfgA (F := F)).N) : (dat W c).after (0 : Fin 5) t = iblk W c (0 : Fin 5) t := rfl
theorem after1 (c : Dev nD) (t : Fin (cfgA (F := F)).N) : (dat W c).after (1 : Fin 5) t = iblk W c (1 : Fin 5) t := rfl
theorem after2 (c : Dev nD) (t : Fin (cfgA (F := F)).N) : (dat W c).after (2 : Fin 5) t = iblk W c (2 : Fin 5) t := rfl
theorem after3 (c : Dev nD) (t : Fin (cfgA (F := F)).N) : (dat W c).after (3 : Fin 5) t = iblk W c (3 : Fin 5) t := rfl
theorem after4 (c : Dev nD) (t : Fin (cfgA (F := F)).N) : (dat W c).after (4 : Fin 5) t = outBlk (acc W c t.val t.isLt) (iblk W c (3 : Fin 5) t) := rfl

/-- Each input's staging buffer holds its block at every point. -/
theorem before0 (c : Dev nD) (t : Fin (cfgA (F := F)).N) (d) : (dat W c).before (0 : Fin 5) t d = iblk W c (0 : Fin 5) t :=
  ((dat W c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA (F := F)).N) (d) : (dat W c).before (1 : Fin 5) t d = iblk W c (1 : Fin 5) t :=
  ((dat W c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA (F := F)).N) (d) : (dat W c).before (2 : Fin 5) t d = iblk W c (2 : Fin 5) t :=
  ((dat W c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA (F := F)).N) (d) : (dat W c).before (3 : Fin 5) t d = iblk W c (3 : Fin 5) t :=
  ((dat W c).before_in_eq_fetched (3 : Fin 5) rfl (fun _ => rfl) (fun _ _ _ => rfl) (fun t => by rw [after3]; unfold Dat.blockOf iblk; rfl) t d).trans
    (by unfold Dat.fetched Dat.blockOf iblk; rfl)

/-- The output's holds anything. -/
theorem before4 (c : Dev nD) (t : Fin (cfgA (F := F)).N) (d) : (dat W c).before (4 : Fin 5) t d = d := by
  rw [(dat W c).before_out_traj (4 : Fin 5) rfl (fun _ _ => rfl) (fun t ht hi hf => by rw [fresh t.val t.isLt.le] at hf; exact absurd hf (by decide)) t.val t rfl d,
    fresh t.val t.isLt.le]
  rfl

/-! ## The body obligation -/

set_option maxHeartbeats 8000000 in
/-- The body at any point: its path's run applies to the blocks that the inputs' buffers hold. -/
theorem sound_body (c : Dev nD) (t : Fin (cfgA (F := F)).N) :
    iprop((dat W c).Φ t.castSucc ∗ (dat W c).owesAt () t.castSucc
        ∗ (∃ d, owns (c : Thread nD τ) (ms0 t) fullShare ((dat W c).before (0 : Fin 5) t d))
        ∗ (∃ d, owns (c : Thread nD τ) (ms1 t) fullShare ((dat W c).before (1 : Fin 5) t d))
        ∗ (∃ d, owns (c : Thread nD τ) (ms2 t) fullShare ((dat W c).before (2 : Fin 5) t d))
        ∗ (∃ d, owns (c : Thread nD τ) (ms3 t) fullShare ((dat W c).before (3 : Fin 5) t d))
        ∗ (∃ d, owns (c : Thread nD τ) (ms4 t) fullShare ((dat W c).before (4 : Fin 5) t d)))
      ⊢ wp frame (wpE (defs₀ (F := F)) Variants.none c none) Set.univ (bodyAt t) fun _ =>
          iprop((dat W c).Φ t.succ ∗ (dat W c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dat W c).before w t d))
                  | true => owns (c : Thread nD τ) (((cfgA (F := F)).win w).stage ((cfgA (F := F)).slots t w)) fullShare ((dat W c).after w t)
                | false => owns (c : Thread nD τ) (((cfgA (F := F)).win w).stage ((cfgA (F := F)).slots t w)) fullShare ((dat W c).after w t)) := by
  rw [bigSep_W1]
  by_cases q0 : isZero (jw t)
  · by_cases q1 : k1_cond2 (iw t) (jw t) = 1#1
    · obtain ⟨i4, f4⟩ := sched_fin t q1
      rewrite [i4]
      simp only [before0, before1, before2, before3, before4, after0, after1, after2, after3, after4, f4]
      rewrite [show (dat W c).Φ t.succ = Phi W c t.succ from rfl, show (dat W c).Φ t.castSucc = Phi W c t.castSucc from rfl,
        show (dat W c).owesAt () t.succ = (dat W c).owesAt () t.castSucc from rfl]
      unfold Phi
      simp only [Fin.val_castSucc, Fin.val_succ, accB_succ]
      unfold owns
      iintro ⟨⟨⟨%a0, %ha0, HS0⟩, HT0, HT1, HQ⟩, Ho, ⟨%d0, %x0, %e0, H0⟩, ⟨%d1, %x1, %e1, H1⟩, ⟨%d2, %x2, %e2, H2⟩, ⟨%d3, %x3, %e3, H3⟩, ⟨%d4, %x4, %e4, H4⟩⟩
      iapply ((runA (F := F) c (crd t) (ms0 t) (hs0 t) (ms1 t) (hs1 t) (ms2 t) (hs2 t) (ms3 t) (hs3 t) (ms4 t) (hs4 t) tabI tabJ x0 x1 x2 x3 (chk t) q0 q1).2.2 a0 _)
      isplitl [H0]; · iexact H0
      isplitl [H1]; · iexact H1
      isplitl [H2]; · iexact H2
      isplitl [H3]; · iexact H3
      isplitl [HT0]; · iexact HT0
      isplitl [HT1]; · iexact HT1
      isplitl [H4]
      · iexists d4; unfold owns; iexists x4; isplitr; · ipureintro; exact e4
        iexact H4
      isplitl [HS0]; · iexact HS0
      iintro ⟨H0, H1, H2, H3, HT0, HT1, ⟨%y4, H4⟩, HS0⟩
      have hacc := (runA_acc (F := F) c (crd t) (ms0 t) (hs0 t) (ms1 t) (hs1 t) (ms2 t) (hs2 t) (ms3 t) (hs3 t) (ms4 t) (hs4 t) tabI tabJ x0 x1 x2 x3 (chk t) q0 q1).trans (show _ = acc W c t.val t.isLt from by rw [e0, e1, e2, acc_zero W c t q0])
      isplitl [HS0 HT0 HT1 HQ]
      · isplitl [HS0]
        · iexists _; isplitr; swap
          · iexact HS0
          · ipureintro; intro _; exact hacc
        isplitl [HT0]
        · iexact HT0
        isplitl [HT1]
        · iexact HT1
        iexact HQ
      isplitl [Ho]; · iexact Ho
      isplitl [H0]
      · iexists x0; isplitr; · ipureintro; exact e0
        iexact H0
      isplitl [H1]
      · iexists x1; isplitr; · ipureintro; exact e1
        iexact H1
      isplitl [H2]
      · iexists x2; isplitr; · ipureintro; exact e2
        iexact H2
      isplitl [H3]
      · iexists x3; isplitr; · ipureintro; exact e3
        iexact H3
      iexists _; isplitr; swap
      · iexact H4
      · ipureintro
        rw [runA_out, read_out, e0, e1, e2, e3, acc_zero W c t q0]
    · obtain ⟨i4, f4⟩ := sched_run t q1
      rewrite [i4]
      simp only [before0, before1, before2, before3, before4, after0, after1, after2, after3, after4, f4]
      rewrite [show (dat W c).Φ t.succ = Phi W c t.succ from rfl, show (dat W c).Φ t.castSucc = Phi W c t.castSucc from rfl,
        show (dat W c).owesAt () t.succ = (dat W c).owesAt () t.castSucc from rfl]
      unfold Phi
      simp only [Fin.val_castSucc, Fin.val_succ, accB_succ]
      unfold owns
      iintro ⟨⟨⟨%a0, %ha0, HS0⟩, HT0, HT1, HQ⟩, Ho, ⟨%d0, %x0, %e0, H0⟩, ⟨%d1, %x1, %e1, H1⟩, ⟨%d2, %x2, %e2, H2⟩, ⟨%d3, %x3, %e3, H3⟩, ⟨%d4, %x4, %e4, H4⟩⟩
      iapply ((runB (F := F) c (crd t) (ms0 t) (hs0 t) (ms1 t) (hs1 t) (ms2 t) (hs2 t) (ms3 t) (hs3 t) (ms4 t) (hs4 t) tabI tabJ x0 x1 x2 x3 (chk t) q0 q1).2 a0 d4 _)
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists x4; isplitr; · ipureintro; exact e4
        iexact H4
      isplitl [HS0]; · iexact HS0
      iintro ⟨H0, H1, H2, H3, HT0, HT1, H4, HS0⟩
      have hacc := (runB_acc (F := F) c (crd t) (ms0 t) (hs0 t) (ms1 t) (hs1 t) (ms2 t) (hs2 t) (ms3 t) (hs3 t) (ms4 t) (hs4 t) tabI tabJ x0 x1 x2 x3 (chk t) q0 q1).trans (show _ = acc W c t.val t.isLt from by rw [e0, e1, e2, acc_zero W c t q0])
      isplitl [HS0 HT0 HT1 HQ]
      · isplitl [HS0]
        · iexists _; isplitr; swap
          · iexact HS0
          · ipureintro; intro _; exact hacc
        isplitl [HT0]
        · iexact HT0
        isplitl [HT1]
        · iexact HT1
        iexact HQ
      isplitl [Ho]; · iexact Ho
      isplitl [H0]
      · iexists x0; isplitr; · ipureintro; exact e0
        iexact H0
      isplitl [H1]
      · iexists x1; isplitr; · ipureintro; exact e1
        iexact H1
      isplitl [H2]
      · iexists x2; isplitr; · ipureintro; exact e2
        iexact H2
      isplitl [H3]
      · iexists x3; isplitr; · ipureintro; exact e3
        iexact H3
      first | (iexists d4; unfold owns; iexact H4) | (unfold owns; iexact H4) | (iexists d4; iexact H4)
  · by_cases q1 : k1_cond2 (iw t) (jw t) = 1#1
    · obtain ⟨i4, f4⟩ := sched_fin t q1
      rewrite [i4]
      simp only [before0, before1, before2, before3, before4, after0, after1, after2, after3, after4, f4]
      rewrite [show (dat W c).Φ t.succ = Phi W c t.succ from rfl, show (dat W c).Φ t.castSucc = Phi W c t.castSucc from rfl,
        show (dat W c).owesAt () t.succ = (dat W c).owesAt () t.castSucc from rfl]
      unfold Phi
      simp only [Fin.val_castSucc, Fin.val_succ, accB_succ]
      unfold owns
      iintro ⟨⟨⟨%a0, %ha0, HS0⟩, HT0, HT1, HQ⟩, Ho, ⟨%d0, %x0, %e0, H0⟩, ⟨%d1, %x1, %e1, H1⟩, ⟨%d2, %x2, %e2, H2⟩, ⟨%d3, %x3, %e3, H3⟩, ⟨%d4, %x4, %e4, H4⟩⟩
      have hn : t.val ≠ 0 := fun h => q0 (zero_first t h)
      obtain rfl := ha0 hn
      iapply ((runC (F := F) c (crd t) (ms0 t) (hs0 t) (ms1 t) (hs1 t) (ms2 t) (hs2 t) (ms3 t) (hs3 t) (ms4 t) (hs4 t) tabI tabJ x0 x1 x2 x3 (accB W c t.val t.isLt.le) (chk t) q0 q1).2.2 _)
      isplitl [H0]; · iexact H0
      isplitl [H1]; · iexact H1
      isplitl [H2]; · iexact H2
      isplitl [H3]; · iexact H3
      isplitl [HT0]; · iexact HT0
      isplitl [HT1]; · iexact HT1
      isplitl [H4]
      · iexists d4; unfold owns; iexists x4; isplitr; · ipureintro; exact e4
        iexact H4
      isplitl [HS0]; · iexact HS0
      iintro ⟨H0, H1, H2, H3, HT0, HT1, ⟨%y4, H4⟩, HS0⟩
      have hacc := (runC_acc (F := F) c (crd t) (ms0 t) (hs0 t) (ms1 t) (hs1 t) (ms2 t) (hs2 t) (ms3 t) (hs3 t) (ms4 t) (hs4 t) tabI tabJ x0 x1 x2 x3 (accB W c t.val t.isLt.le) (chk t) q0 q1).trans (show _ = acc W c t.val t.isLt from by rw [e0, e1, e2, acc_more W c t q0])
      isplitl [HS0 HT0 HT1 HQ]
      · isplitl [HS0]
        · iexists _; isplitr; swap
          · iexact HS0
          · ipureintro; intro _; exact hacc
        isplitl [HT0]
        · iexact HT0
        isplitl [HT1]
        · iexact HT1
        iexact HQ
      isplitl [Ho]; · iexact Ho
      isplitl [H0]
      · iexists x0; isplitr; · ipureintro; exact e0
        iexact H0
      isplitl [H1]
      · iexists x1; isplitr; · ipureintro; exact e1
        iexact H1
      isplitl [H2]
      · iexists x2; isplitr; · ipureintro; exact e2
        iexact H2
      isplitl [H3]
      · iexists x3; isplitr; · ipureintro; exact e3
        iexact H3
      iexists _; isplitr; swap
      · iexact H4
      · ipureintro
        rw [runC_out, read_out, e0, e1, e2, e3, acc_more W c t q0]
    · obtain ⟨i4, f4⟩ := sched_run t q1
      rewrite [i4]
      simp only [before0, before1, before2, before3, before4, after0, after1, after2, after3, after4, f4]
      rewrite [show (dat W c).Φ t.succ = Phi W c t.succ from rfl, show (dat W c).Φ t.castSucc = Phi W c t.castSucc from rfl,
        show (dat W c).owesAt () t.succ = (dat W c).owesAt () t.castSucc from rfl]
      unfold Phi
      simp only [Fin.val_castSucc, Fin.val_succ, accB_succ]
      unfold owns
      iintro ⟨⟨⟨%a0, %ha0, HS0⟩, HT0, HT1, HQ⟩, Ho, ⟨%d0, %x0, %e0, H0⟩, ⟨%d1, %x1, %e1, H1⟩, ⟨%d2, %x2, %e2, H2⟩, ⟨%d3, %x3, %e3, H3⟩, ⟨%d4, %x4, %e4, H4⟩⟩
      have hn : t.val ≠ 0 := fun h => q0 (zero_first t h)
      obtain rfl := ha0 hn
      iapply ((runD (F := F) c (crd t) (ms0 t) (hs0 t) (ms1 t) (hs1 t) (ms2 t) (hs2 t) (ms3 t) (hs3 t) (ms4 t) (hs4 t) tabI tabJ x0 x1 x2 x3 (accB W c t.val t.isLt.le) (chk t) q0 q1).2 d4 _)
      isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists x4; isplitr; · ipureintro; exact e4
        iexact H4
      isplitl [HS0]; · iexact HS0
      iintro ⟨H0, H1, H2, H3, HT0, HT1, H4, HS0⟩
      have hacc := (runD_acc (F := F) c (crd t) (ms0 t) (hs0 t) (ms1 t) (hs1 t) (ms2 t) (hs2 t) (ms3 t) (hs3 t) (ms4 t) (hs4 t) tabI tabJ x0 x1 x2 x3 (accB W c t.val t.isLt.le) (chk t) q0 q1).trans (show _ = acc W c t.val t.isLt from by rw [e0, e1, e2, acc_more W c t q0])
      isplitl [HS0 HT0 HT1 HQ]
      · isplitl [HS0]
        · iexists _; isplitr; swap
          · iexact HS0
          · ipureintro; intro _; exact hacc
        isplitl [HT0]
        · iexact HT0
        isplitl [HT1]
        · iexact HT1
        iexact HQ
      isplitl [Ho]; · iexact Ho
      isplitl [H0]
      · iexists x0; isplitr; · ipureintro; exact e0
        iexact H0
      isplitl [H1]
      · iexists x1; isplitr; · ipureintro; exact e1
        iexact H1
      isplitl [H2]
      · iexists x2; isplitr; · ipureintro; exact e2
        iexact H2
      isplitl [H3]
      · iexists x3; isplitr; · ipureintro; exact e3
        iexact H3
      first | (iexists d4; unfold owns; iexact H4) | (unfold owns; iexact H4) | (iexists d4; iexact H4)

/-- The body obligation of the attention's pipeline, at every point. -/
theorem body_obligation (c : Dev nD) : BodyObligation (dat W c) (defs₀ (F := F)) Variants.none () Set.univ := fun t => by
  rw [bigSep_W1]
  exact sound_body W c t

end Cert.KernelIdeal.Attn

end
-- ==== Proof.IdealProj.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Tactic

/-! The projection call: what its body leaves in the three output buffers, and the body obligation of its pipeline,
    for any contents `W` the region finds in the arrays. -/

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of core `c`'s buffers when the region is entered
variable (W : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- For any proof data whose window-0 array is the region-entry contents and whose body leaves the block in place,
    input window 0's staging buffer holds its block at every point. -/
theorem before0_0_of {c : Dev nD} (dat : Dat τ (Elt F) Unit ℕ (UR sig nD τ) ℕ cfg0 c) (hA : dat.A 0 = W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-1 array is the region-entry contents and whose body leaves the block in place,
    input window 1's staging buffer holds its block at every point. -/
theorem before0_1_of {c : Dev nD} (dat : Dat τ (Elt F) Unit ℕ (UR sig nD τ) ℕ cfg0 c) (hA : dat.A 1 = W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-2 array is the region-entry contents and whose body leaves the block in place,
    input window 2's staging buffer holds its block at every point. -/
theorem before0_2_of {c : Dev nD} (dat : Dat τ (Elt F) Unit ℕ (UR sig nD τ) ℕ cfg0 c) (hA : dat.A 2 = W c (Pipeline.arrRef spec0 2))
    (hafter : ∀ t, dat.after 2 t = iblk W c 2 t) (t : Fin cfg0.N) (d) : dat.before 2 t d = iblk W c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-3 array is the region-entry contents and whose body leaves the block in place,
    input window 3's staging buffer holds its block at every point. -/
theorem before0_3_of {c : Dev nD} (dat : Dat τ (Elt F) Unit ℕ (UR sig nD τ) ℕ cfg0 c) (hA : dat.A 3 = W c (Pipeline.arrRef spec0 3))
    (hafter : ∀ t, dat.after 3 t = iblk W c 3 t) (t : Fin cfg0.N) (d) : dat.before 3 t d = iblk W c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-4 array is the region-entry contents and whose body leaves the block in place,
    input window 4's staging buffer holds its block at every point. -/
theorem before0_4_of {c : Dev nD} (dat : Dat τ (Elt F) Unit ℕ (UR sig nD τ) ℕ cfg0 c) (hA : dat.A 4 = W c (Pipeline.arrRef spec0 4))
    (hafter : ∀ t, dat.after 4 t = iblk W c 4 t) (t : Fin cfg0.N) (d) : dat.before 4 t d = iblk W c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-5 array is the region-entry contents and whose body leaves the block in place,
    input window 5's staging buffer holds its block at every point. -/
theorem before0_5_of {c : Dev nD} (dat : Dat τ (Elt F) Unit ℕ (UR sig nD τ) ℕ cfg0 c) (hA : dat.A 5 = W c (Pipeline.arrRef spec0 5))
    (hafter : ∀ t, dat.after 5 t = iblk W c 5 t) (t : Fin cfg0.N) (d) : dat.before 5 t d = iblk W c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-6 array is the region-entry contents and whose body leaves the block in place,
    input window 6's staging buffer holds its block at every point. -/
theorem before0_6_of {c : Dev nD} (dat : Dat τ (Elt F) Unit ℕ (UR sig nD τ) ℕ cfg0 c) (hA : dat.A 6 = W c (Pipeline.arrRef spec0 6))
    (hafter : ∀ t, dat.after 6 t = iblk W c 6 t) (t : Fin cfg0.N) (d) : dat.before 6 t d = iblk W c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-7 array is the region-entry contents and whose body leaves the block in place,
    input window 7's staging buffer holds its block at every point. -/
theorem before0_7_of {c : Dev nD} (dat : Dat τ (Elt F) Unit ℕ (UR sig nD τ) ℕ cfg0 c) (hA : dat.A 7 = W c (Pipeline.arrRef spec0 7))
    (hafter : ∀ t, dat.after 7 t = iblk W c 7 t) (t : Fin cfg0.N) (d) : dat.before 7 t d = iblk W c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- For any proof data whose window-8 array is the region-entry contents and whose body leaves the block in place,
    input window 8's staging buffer holds its block at every point. -/
theorem before0_8_of {c : Dev nD} (dat : Dat τ (Elt F) Unit ℕ (UR sig nD τ) ℕ cfg0 c) (hA : dat.A 8 = W c (Pipeline.arrRef spec0 8))
    (hafter : ∀ t, dat.after 8 t = iblk W c 8 t) (t : Fin cfg0.N) (d) : dat.before 8 t d = iblk W c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S256x2048 := Rect.unit (s := S256x2048) ![0, 0] S256x2048.size inb_S256x2048_S256x2048_0_0
abbrev r0_1 : Rect S256x64 := Rect.unit (s := S256x64) ![0, 0] S256x64.size inb_S256x64_S256x64_0_0
abbrev r0_2 : Rect S2048x1536 := Rect.unit (s := S2048x1536) ![0, 0] S2048x1536.size inb_S2048x1536_S2048x1536_0_0
abbrev r0_3 : Rect S1x1536 := Rect.unit (s := S1x1536) ![0, 0] S1x1536.size inb_S1x1536_S1x1536_0_0
abbrev r0_4 : Rect S1536x3072 := Rect.unit (s := S1536x3072) ![0, 0] S1536x3072.size inb_S1536x3072_S1536x3072_0_0
abbrev r0_5 : Rect S2048x576 := Rect.unit (s := S2048x576) ![0, 0] S2048x576.size inb_S2048x576_S2048x576_0_0
abbrev r0_6 : Rect S1x512 := Rect.unit (s := S1x512) ![0, 0] S1x512.size inb_S1x512_S1x512_0_0
abbrev r0_7 : Rect S512x4096 := Rect.unit (s := S512x4096) ![0, 0] S512x4096.size inb_S512x4096_S512x4096_0_0
abbrev r0_8 : Rect S16x256x192 := Rect.unit (s := S16x256x192) ![0, 0, 0] S1x256x192.size inb_S16x256x192_S1x256x192_0_0_0
abbrev r0_9 : Rect S16x256x129 := Rect.unit (s := S16x256x129) ![0, 0, 0] S1x256x129.size inb_S16x256x129_S1x256x129_0_0_0
abbrev r0_10 : Rect S16x256x192 := Rect.unit (s := S16x256x192) ![1, 0, 0] S1x256x192.size inb_S16x256x192_S1x256x192_1_0_0
abbrev r0_11 : Rect S16x256x129 := Rect.unit (s := S16x256x129) ![1, 0, 0] S1x256x129.size inb_S16x256x129_S1x256x129_1_0_0
abbrev r0_12 : Rect S16x256x192 := Rect.unit (s := S16x256x192) ![2, 0, 0] S1x256x192.size inb_S16x256x192_S1x256x192_2_0_0
abbrev r0_13 : Rect S16x256x129 := Rect.unit (s := S16x256x129) ![2, 0, 0] S1x256x129.size inb_S16x256x129_S1x256x129_2_0_0
abbrev r0_14 : Rect S16x256x192 := Rect.unit (s := S16x256x192) ![3, 0, 0] S1x256x192.size inb_S16x256x192_S1x256x192_3_0_0
abbrev r0_15 : Rect S16x256x129 := Rect.unit (s := S16x256x129) ![3, 0, 0] S1x256x129.size inb_S16x256x129_S1x256x129_3_0_0
abbrev r0_16 : Rect S16x256x192 := Rect.unit (s := S16x256x192) ![4, 0, 0] S1x256x192.size inb_S16x256x192_S1x256x192_4_0_0
abbrev r0_17 : Rect S16x256x129 := Rect.unit (s := S16x256x129) ![4, 0, 0] S1x256x129.size inb_S16x256x129_S1x256x129_4_0_0
abbrev r0_18 : Rect S16x256x192 := Rect.unit (s := S16x256x192) ![5, 0, 0] S1x256x192.size inb_S16x256x192_S1x256x192_5_0_0
abbrev r0_19 : Rect S16x256x129 := Rect.unit (s := S16x256x129) ![5, 0, 0] S1x256x129.size inb_S16x256x129_S1x256x129_5_0_0
abbrev r0_20 : Rect S16x256x192 := Rect.unit (s := S16x256x192) ![6, 0, 0] S1x256x192.size inb_S16x256x192_S1x256x192_6_0_0
abbrev r0_21 : Rect S16x256x129 := Rect.unit (s := S16x256x129) ![6, 0, 0] S1x256x129.size inb_S16x256x129_S1x256x129_6_0_0
abbrev r0_22 : Rect S16x256x192 := Rect.unit (s := S16x256x192) ![7, 0, 0] S1x256x192.size inb_S16x256x192_S1x256x192_7_0_0
abbrev r0_23 : Rect S16x256x129 := Rect.unit (s := S16x256x129) ![7, 0, 0] S1x256x129.size inb_S16x256x129_S1x256x129_7_0_0
abbrev r0_24 : Rect S16x256x192 := Rect.unit (s := S16x256x192) ![8, 0, 0] S1x256x192.size inb_S16x256x192_S1x256x192_8_0_0
abbrev r0_25 : Rect S16x256x129 := Rect.unit (s := S16x256x129) ![8, 0, 0] S1x256x129.size inb_S16x256x129_S1x256x129_8_0_0
abbrev r0_26 : Rect S16x256x192 := Rect.unit (s := S16x256x192) ![9, 0, 0] S1x256x192.size inb_S16x256x192_S1x256x192_9_0_0
abbrev r0_27 : Rect S16x256x129 := Rect.unit (s := S16x256x129) ![9, 0, 0] S1x256x129.size inb_S16x256x129_S1x256x129_9_0_0
abbrev r0_28 : Rect S16x256x192 := Rect.unit (s := S16x256x192) ![10, 0, 0] S1x256x192.size inb_S16x256x192_S1x256x192_10_0_0
abbrev r0_29 : Rect S16x256x129 := Rect.unit (s := S16x256x129) ![10, 0, 0] S1x256x129.size inb_S16x256x129_S1x256x129_10_0_0
abbrev r0_30 : Rect S16x256x192 := Rect.unit (s := S16x256x192) ![11, 0, 0] S1x256x192.size inb_S16x256x192_S1x256x192_11_0_0
abbrev r0_31 : Rect S16x256x129 := Rect.unit (s := S16x256x129) ![11, 0, 0] S1x256x129.size inb_S16x256x129_S1x256x129_11_0_0
abbrev r0_32 : Rect S16x256x192 := Rect.unit (s := S16x256x192) ![12, 0, 0] S1x256x192.size inb_S16x256x192_S1x256x192_12_0_0
abbrev r0_33 : Rect S16x256x129 := Rect.unit (s := S16x256x129) ![12, 0, 0] S1x256x129.size inb_S16x256x129_S1x256x129_12_0_0
abbrev r0_34 : Rect S16x256x192 := Rect.unit (s := S16x256x192) ![13, 0, 0] S1x256x192.size inb_S16x256x192_S1x256x192_13_0_0
abbrev r0_35 : Rect S16x256x129 := Rect.unit (s := S16x256x129) ![13, 0, 0] S1x256x129.size inb_S16x256x129_S1x256x129_13_0_0
abbrev r0_36 : Rect S16x256x192 := Rect.unit (s := S16x256x192) ![14, 0, 0] S1x256x192.size inb_S16x256x192_S1x256x192_14_0_0
abbrev r0_37 : Rect S16x256x129 := Rect.unit (s := S16x256x129) ![14, 0, 0] S1x256x129.size inb_S16x256x129_S1x256x129_14_0_0
abbrev r0_38 : Rect S16x256x192 := Rect.unit (s := S16x256x192) ![15, 0, 0] S1x256x192.size inb_S16x256x192_S1x256x192_15_0_0
abbrev r0_39 : Rect S16x256x129 := Rect.unit (s := S16x256x129) ![15, 0, 0] S1x256x129.size inb_S16x256x129_S1x256x129_15_0_0

/-! ## What the body leaves in each output window's buffer -/

/-! ### Values of the body that several stores read, over the input windows' blocks -/

def cosV (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : FVec F S256x64 .f32 :=
  k0_pay5 (View.ld x1 r0_1)
def sinV (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : FVec F S256x64 .f32 :=
  k0_pay6 (View.ld x2 r0_1)
def qV (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : FVec F S256x3072 .f32 :=
  k0_pay7 (View.ld x0 r0_0) (View.ld x3 r0_2) (View.ld x4 r0_3) (View.ld x5 r0_4)
def kvbV (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : FVec F S256x4096 .f32 :=
  k0_pay11 (k0_pay9 (View.ld x0 r0_0) (View.ld x6 r0_5)) (k0_pay10 (View.ld x0 r0_0) (View.ld x6 r0_5)) (View.ld x7 r0_6) (View.ld x8 r0_7)
def kpeV (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : FVec F S256x64 .f32 :=
  k0_pay12 (cosV x0 x1 x2 x3 x4 x5 x6 x7 x8) (sinV x0 x1 x2 x3 x4 x5 x6 x7 x8) (k0_pay8 (View.ld x0 r0_0) (View.ld x6 r0_5))
def oneV (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : FVec F S256x1 .f32 :=
  k0_pay13 (F := F)

/-- Window 9's staging buffer after the body, from the input windows' blocks: its 16 stores, one per head, last first. -/
def out0_9 (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : Vec F S16x256x192 .bf16 :=
  View.canon [⟨r0_38, k0_pay1 (k0_pay83 (cosV x0 x1 x2 x3 x4 x5 x6 x7 x8) (sinV x0 x1 x2 x3 x4 x5 x6 x7 x8) (qV x0 x1 x2 x3 x4 x5 x6 x7 x8))⟩,
    ⟨r0_36, k0_pay80 (sinV x0 x1 x2 x3 x4 x5 x6 x7 x8) (k0_pay74 (qV x0 x1 x2 x3 x4 x5 x6 x7 x8)) (k0_pay76 (qV x0 x1 x2 x3 x4 x5 x6 x7 x8)) (k0_pay77 (qV x0 x1 x2 x3 x4 x5 x6 x7 x8)) (k0_pay78 (cosV x0 x1 x2 x3 x4 x5 x6 x7 x8) (sinV x0 x1 x2 x3 x4 x5 x6 x7 x8) (qV x0 x1 x2 x3 x4 x5 x6 x7 x8)) (k0_pay79 (cosV x0 x1 x2 x3 x4 x5 x6 x7 x8))⟩,
    ⟨r0_34, k0_pay71 (cosV x0 x1 x2 x3 x4 x5 x6 x7 x8) (sinV x0 x1 x2 x3 x4 x5 x6 x7 x8) (k0_pay70 (qV x0 x1 x2 x3 x4 x5 x6 x7 x8))⟩,
    ⟨r0_32, k0_pay67 (cosV x0 x1 x2 x3 x4 x5 x6 x7 x8) (sinV x0 x1 x2 x3 x4 x5 x6 x7 x8) (qV x0 x1 x2 x3 x4 x5 x6 x7 x8)⟩,
    ⟨r0_30, k0_pay64 (cosV x0 x1 x2 x3 x4 x5 x6 x7 x8) (sinV x0 x1 x2 x3 x4 x5 x6 x7 x8) (qV x0 x1 x2 x3 x4 x5 x6 x7 x8)⟩,
    ⟨r0_28, k0_pay61 (k0_pay60 (cosV x0 x1 x2 x3 x4 x5 x6 x7 x8) (sinV x0 x1 x2 x3 x4 x5 x6 x7 x8) (qV x0 x1 x2 x3 x4 x5 x6 x7 x8))⟩,
    ⟨r0_26, k0_pay57 (sinV x0 x1 x2 x3 x4 x5 x6 x7 x8) (k0_pay51 (qV x0 x1 x2 x3 x4 x5 x6 x7 x8)) (k0_pay53 (qV x0 x1 x2 x3 x4 x5 x6 x7 x8)) (k0_pay54 (qV x0 x1 x2 x3 x4 x5 x6 x7 x8)) (k0_pay55 (cosV x0 x1 x2 x3 x4 x5 x6 x7 x8) (sinV x0 x1 x2 x3 x4 x5 x6 x7 x8) (qV x0 x1 x2 x3 x4 x5 x6 x7 x8)) (k0_pay56 (cosV x0 x1 x2 x3 x4 x5 x6 x7 x8))⟩,
    ⟨r0_24, k0_pay48 (cosV x0 x1 x2 x3 x4 x5 x6 x7 x8) (sinV x0 x1 x2 x3 x4 x5 x6 x7 x8) (k0_pay47 (qV x0 x1 x2 x3 x4 x5 x6 x7 x8))⟩,
    ⟨r0_22, k0_pay44 (cosV x0 x1 x2 x3 x4 x5 x6 x7 x8) (sinV x0 x1 x2 x3 x4 x5 x6 x7 x8) (qV x0 x1 x2 x3 x4 x5 x6 x7 x8)⟩,
    ⟨r0_20, k0_pay41 (cosV x0 x1 x2 x3 x4 x5 x6 x7 x8) (sinV x0 x1 x2 x3 x4 x5 x6 x7 x8) (qV x0 x1 x2 x3 x4 x5 x6 x7 x8)⟩,
    ⟨r0_18, k0_pay38 (k0_pay37 (cosV x0 x1 x2 x3 x4 x5 x6 x7 x8) (sinV x0 x1 x2 x3 x4 x5 x6 x7 x8) (qV x0 x1 x2 x3 x4 x5 x6 x7 x8))⟩,
    ⟨r0_16, k0_pay34 (sinV x0 x1 x2 x3 x4 x5 x6 x7 x8) (k0_pay28 (qV x0 x1 x2 x3 x4 x5 x6 x7 x8)) (k0_pay30 (qV x0 x1 x2 x3 x4 x5 x6 x7 x8)) (k0_pay31 (qV x0 x1 x2 x3 x4 x5 x6 x7 x8)) (k0_pay32 (cosV x0 x1 x2 x3 x4 x5 x6 x7 x8) (sinV x0 x1 x2 x3 x4 x5 x6 x7 x8) (qV x0 x1 x2 x3 x4 x5 x6 x7 x8)) (k0_pay33 (cosV x0 x1 x2 x3 x4 x5 x6 x7 x8))⟩,
    ⟨r0_14, k0_pay25 (cosV x0 x1 x2 x3 x4 x5 x6 x7 x8) (sinV x0 x1 x2 x3 x4 x5 x6 x7 x8) (k0_pay24 (qV x0 x1 x2 x3 x4 x5 x6 x7 x8))⟩,
    ⟨r0_12, k0_pay21 (cosV x0 x1 x2 x3 x4 x5 x6 x7 x8) (sinV x0 x1 x2 x3 x4 x5 x6 x7 x8) (qV x0 x1 x2 x3 x4 x5 x6 x7 x8)⟩,
    ⟨r0_10, k0_pay18 (cosV x0 x1 x2 x3 x4 x5 x6 x7 x8) (sinV x0 x1 x2 x3 x4 x5 x6 x7 x8) (qV x0 x1 x2 x3 x4 x5 x6 x7 x8)⟩,
    ⟨r0_8, k0_pay15 (k0_pay14 (cosV x0 x1 x2 x3 x4 x5 x6 x7 x8) (sinV x0 x1 x2 x3 x4 x5 x6 x7 x8) (qV x0 x1 x2 x3 x4 x5 x6 x7 x8))⟩]

/-- The 16 stores cover the buffer. -/
theorem cover0_9 (p0 : Vec F S1x256x192 .bf16) (p1 : Vec F S1x256x192 .bf16) (p2 : Vec F S1x256x192 .bf16) (p3 : Vec F S1x256x192 .bf16) (p4 : Vec F S1x256x192 .bf16) (p5 : Vec F S1x256x192 .bf16) (p6 : Vec F S1x256x192 .bf16) (p7 : Vec F S1x256x192 .bf16) (p8 : Vec F S1x256x192 .bf16) (p9 : Vec F S1x256x192 .bf16) (p10 : Vec F S1x256x192 .bf16) (p11 : Vec F S1x256x192 .bf16) (p12 : Vec F S1x256x192 .bf16) (p13 : Vec F S1x256x192 .bf16) (p14 : Vec F S1x256x192 .bf16) (p15 : Vec F S1x256x192 .bf16) (y : S16x256x192.Idx) :
    ∃ pc ∈ ([⟨r0_38, p0⟩, ⟨r0_36, p1⟩, ⟨r0_34, p2⟩, ⟨r0_32, p3⟩, ⟨r0_30, p4⟩, ⟨r0_28, p5⟩, ⟨r0_26, p6⟩, ⟨r0_24, p7⟩, ⟨r0_22, p8⟩, ⟨r0_20, p9⟩, ⟨r0_18, p10⟩, ⟨r0_16, p11⟩, ⟨r0_14, p12⟩, ⟨r0_12, p13⟩, ⟨r0_10, p14⟩, ⟨r0_8, p15⟩] : List (View.Piece (Elt F) S16x256x192 .bf16)), y ∈ pc.1.set :=
  View.cover_of_tiled [⟨r0_38, p0⟩, ⟨r0_36, p1⟩, ⟨r0_34, p2⟩, ⟨r0_32, p3⟩, ⟨r0_30, p4⟩, ⟨r0_28, p5⟩, ⟨r0_26, p6⟩, ⟨r0_24, p7⟩, ⟨r0_22, p8⟩, ⟨r0_20, p9⟩, ⟨r0_18, p10⟩, ⟨r0_16, p11⟩, ⟨r0_14, p12⟩, ⟨r0_12, p13⟩, ⟨r0_10, p14⟩, ⟨r0_8, p15⟩] S1x256x192.size (by rfl) y

/-- Window 10's staging buffer after the body, from the input windows' blocks: its 16 stores, one per head, last first. -/
def out0_10 (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : Vec F S16x256x192 .bf16 :=
  View.canon [⟨r0_38, k0_pay2 (kvbV x0 x1 x2 x3 x4 x5 x6 x7 x8) (kpeV x0 x1 x2 x3 x4 x5 x6 x7 x8)⟩,
    ⟨r0_36, k0_pay81 (kvbV x0 x1 x2 x3 x4 x5 x6 x7 x8) (kpeV x0 x1 x2 x3 x4 x5 x6 x7 x8)⟩,
    ⟨r0_34, k0_pay72 (kvbV x0 x1 x2 x3 x4 x5 x6 x7 x8) (kpeV x0 x1 x2 x3 x4 x5 x6 x7 x8)⟩,
    ⟨r0_32, k0_pay68 (kvbV x0 x1 x2 x3 x4 x5 x6 x7 x8) (kpeV x0 x1 x2 x3 x4 x5 x6 x7 x8)⟩,
    ⟨r0_30, k0_pay65 (kvbV x0 x1 x2 x3 x4 x5 x6 x7 x8) (kpeV x0 x1 x2 x3 x4 x5 x6 x7 x8)⟩,
    ⟨r0_28, k0_pay62 (kvbV x0 x1 x2 x3 x4 x5 x6 x7 x8) (kpeV x0 x1 x2 x3 x4 x5 x6 x7 x8)⟩,
    ⟨r0_26, k0_pay58 (kvbV x0 x1 x2 x3 x4 x5 x6 x7 x8) (kpeV x0 x1 x2 x3 x4 x5 x6 x7 x8)⟩,
    ⟨r0_24, k0_pay49 (kvbV x0 x1 x2 x3 x4 x5 x6 x7 x8) (kpeV x0 x1 x2 x3 x4 x5 x6 x7 x8)⟩,
    ⟨r0_22, k0_pay45 (kvbV x0 x1 x2 x3 x4 x5 x6 x7 x8) (kpeV x0 x1 x2 x3 x4 x5 x6 x7 x8)⟩,
    ⟨r0_20, k0_pay42 (kvbV x0 x1 x2 x3 x4 x5 x6 x7 x8) (kpeV x0 x1 x2 x3 x4 x5 x6 x7 x8)⟩,
    ⟨r0_18, k0_pay39 (kvbV x0 x1 x2 x3 x4 x5 x6 x7 x8) (kpeV x0 x1 x2 x3 x4 x5 x6 x7 x8)⟩,
    ⟨r0_16, k0_pay35 (kvbV x0 x1 x2 x3 x4 x5 x6 x7 x8) (kpeV x0 x1 x2 x3 x4 x5 x6 x7 x8)⟩,
    ⟨r0_14, k0_pay26 (kvbV x0 x1 x2 x3 x4 x5 x6 x7 x8) (kpeV x0 x1 x2 x3 x4 x5 x6 x7 x8)⟩,
    ⟨r0_12, k0_pay22 (kvbV x0 x1 x2 x3 x4 x5 x6 x7 x8) (kpeV x0 x1 x2 x3 x4 x5 x6 x7 x8)⟩,
    ⟨r0_10, k0_pay19 (kvbV x0 x1 x2 x3 x4 x5 x6 x7 x8) (kpeV x0 x1 x2 x3 x4 x5 x6 x7 x8)⟩,
    ⟨r0_8, k0_pay16 (kvbV x0 x1 x2 x3 x4 x5 x6 x7 x8) (kpeV x0 x1 x2 x3 x4 x5 x6 x7 x8)⟩]

/-- The 16 stores cover the buffer. -/
theorem cover0_10 (p0 : Vec F S1x256x192 .bf16) (p1 : Vec F S1x256x192 .bf16) (p2 : Vec F S1x256x192 .bf16) (p3 : Vec F S1x256x192 .bf16) (p4 : Vec F S1x256x192 .bf16) (p5 : Vec F S1x256x192 .bf16) (p6 : Vec F S1x256x192 .bf16) (p7 : Vec F S1x256x192 .bf16) (p8 : Vec F S1x256x192 .bf16) (p9 : Vec F S1x256x192 .bf16) (p10 : Vec F S1x256x192 .bf16) (p11 : Vec F S1x256x192 .bf16) (p12 : Vec F S1x256x192 .bf16) (p13 : Vec F S1x256x192 .bf16) (p14 : Vec F S1x256x192 .bf16) (p15 : Vec F S1x256x192 .bf16) (y : S16x256x192.Idx) :
    ∃ pc ∈ ([⟨r0_38, p0⟩, ⟨r0_36, p1⟩, ⟨r0_34, p2⟩, ⟨r0_32, p3⟩, ⟨r0_30, p4⟩, ⟨r0_28, p5⟩, ⟨r0_26, p6⟩, ⟨r0_24, p7⟩, ⟨r0_22, p8⟩, ⟨r0_20, p9⟩, ⟨r0_18, p10⟩, ⟨r0_16, p11⟩, ⟨r0_14, p12⟩, ⟨r0_12, p13⟩, ⟨r0_10, p14⟩, ⟨r0_8, p15⟩] : List (View.Piece (Elt F) S16x256x192 .bf16)), y ∈ pc.1.set :=
  View.cover_of_tiled [⟨r0_38, p0⟩, ⟨r0_36, p1⟩, ⟨r0_34, p2⟩, ⟨r0_32, p3⟩, ⟨r0_30, p4⟩, ⟨r0_28, p5⟩, ⟨r0_26, p6⟩, ⟨r0_24, p7⟩, ⟨r0_22, p8⟩, ⟨r0_20, p9⟩, ⟨r0_18, p10⟩, ⟨r0_16, p11⟩, ⟨r0_14, p12⟩, ⟨r0_12, p13⟩, ⟨r0_10, p14⟩, ⟨r0_8, p15⟩] S1x256x192.size (by rfl) y

/-- Window 11's staging buffer after the body, from the input windows' blocks: its 16 stores, one per head, last first. -/
def out0_11 (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) : Vec F S16x256x129 .bf16 :=
  View.canon [⟨r0_39, k0_pay3 (kvbV x0 x1 x2 x3 x4 x5 x6 x7 x8) (oneV x0 x1 x2 x3 x4 x5 x6 x7 x8)⟩,
    ⟨r0_37, k0_pay82 (kvbV x0 x1 x2 x3 x4 x5 x6 x7 x8) (oneV x0 x1 x2 x3 x4 x5 x6 x7 x8)⟩,
    ⟨r0_35, k0_pay73 (kvbV x0 x1 x2 x3 x4 x5 x6 x7 x8) (oneV x0 x1 x2 x3 x4 x5 x6 x7 x8)⟩,
    ⟨r0_33, k0_pay69 (kvbV x0 x1 x2 x3 x4 x5 x6 x7 x8) (oneV x0 x1 x2 x3 x4 x5 x6 x7 x8)⟩,
    ⟨r0_31, k0_pay66 (kvbV x0 x1 x2 x3 x4 x5 x6 x7 x8) (oneV x0 x1 x2 x3 x4 x5 x6 x7 x8)⟩,
    ⟨r0_29, k0_pay63 (kvbV x0 x1 x2 x3 x4 x5 x6 x7 x8) (oneV x0 x1 x2 x3 x4 x5 x6 x7 x8)⟩,
    ⟨r0_27, k0_pay59 (kvbV x0 x1 x2 x3 x4 x5 x6 x7 x8) (oneV x0 x1 x2 x3 x4 x5 x6 x7 x8)⟩,
    ⟨r0_25, k0_pay50 (kvbV x0 x1 x2 x3 x4 x5 x6 x7 x8) (oneV x0 x1 x2 x3 x4 x5 x6 x7 x8)⟩,
    ⟨r0_23, k0_pay46 (kvbV x0 x1 x2 x3 x4 x5 x6 x7 x8) (oneV x0 x1 x2 x3 x4 x5 x6 x7 x8)⟩,
    ⟨r0_21, k0_pay43 (kvbV x0 x1 x2 x3 x4 x5 x6 x7 x8) (oneV x0 x1 x2 x3 x4 x5 x6 x7 x8)⟩,
    ⟨r0_19, k0_pay40 (kvbV x0 x1 x2 x3 x4 x5 x6 x7 x8) (oneV x0 x1 x2 x3 x4 x5 x6 x7 x8)⟩,
    ⟨r0_17, k0_pay36 (kvbV x0 x1 x2 x3 x4 x5 x6 x7 x8) (oneV x0 x1 x2 x3 x4 x5 x6 x7 x8)⟩,
    ⟨r0_15, k0_pay27 (kvbV x0 x1 x2 x3 x4 x5 x6 x7 x8) (oneV x0 x1 x2 x3 x4 x5 x6 x7 x8)⟩,
    ⟨r0_13, k0_pay23 (kvbV x0 x1 x2 x3 x4 x5 x6 x7 x8) (oneV x0 x1 x2 x3 x4 x5 x6 x7 x8)⟩,
    ⟨r0_11, k0_pay20 (kvbV x0 x1 x2 x3 x4 x5 x6 x7 x8) (oneV x0 x1 x2 x3 x4 x5 x6 x7 x8)⟩,
    ⟨r0_9, k0_pay17 (kvbV x0 x1 x2 x3 x4 x5 x6 x7 x8) (oneV x0 x1 x2 x3 x4 x5 x6 x7 x8)⟩]

/-- The 16 stores cover the buffer. -/
theorem cover0_11 (p0 : Vec F S1x256x129 .bf16) (p1 : Vec F S1x256x129 .bf16) (p2 : Vec F S1x256x129 .bf16) (p3 : Vec F S1x256x129 .bf16) (p4 : Vec F S1x256x129 .bf16) (p5 : Vec F S1x256x129 .bf16) (p6 : Vec F S1x256x129 .bf16) (p7 : Vec F S1x256x129 .bf16) (p8 : Vec F S1x256x129 .bf16) (p9 : Vec F S1x256x129 .bf16) (p10 : Vec F S1x256x129 .bf16) (p11 : Vec F S1x256x129 .bf16) (p12 : Vec F S1x256x129 .bf16) (p13 : Vec F S1x256x129 .bf16) (p14 : Vec F S1x256x129 .bf16) (p15 : Vec F S1x256x129 .bf16) (y : S16x256x129.Idx) :
    ∃ pc ∈ ([⟨r0_39, p0⟩, ⟨r0_37, p1⟩, ⟨r0_35, p2⟩, ⟨r0_33, p3⟩, ⟨r0_31, p4⟩, ⟨r0_29, p5⟩, ⟨r0_27, p6⟩, ⟨r0_25, p7⟩, ⟨r0_23, p8⟩, ⟨r0_21, p9⟩, ⟨r0_19, p10⟩, ⟨r0_17, p11⟩, ⟨r0_15, p12⟩, ⟨r0_13, p13⟩, ⟨r0_11, p14⟩, ⟨r0_9, p15⟩] : List (View.Piece (Elt F) S16x256x129 .bf16)), y ∈ pc.1.set :=
  View.cover_of_tiled [⟨r0_39, p0⟩, ⟨r0_37, p1⟩, ⟨r0_35, p2⟩, ⟨r0_33, p3⟩, ⟨r0_31, p4⟩, ⟨r0_29, p5⟩, ⟨r0_27, p6⟩, ⟨r0_25, p7⟩, ⟨r0_23, p8⟩, ⟨r0_21, p9⟩, ⟨r0_19, p10⟩, ⟨r0_17, p11⟩, ⟨r0_15, p12⟩, ⟨r0_13, p13⟩, ⟨r0_11, p14⟩, ⟨r0_9, p15⟩] S1x256x129.size (by rfl) y

/-! ## The body's triple -/

set_option maxHeartbeats 1000000 in
/-- The body on whole staging buffers, the inputs' at contents `xW` and the outputs' at anything, leaves the inputs' as
    they were and each output's at `out0_W` of the inputs'. -/
theorem sound_kernel (c : Dev nD) (E : Set ℕ) (i : grid0.Coords) (arg1 : Memref sig .tc .vmem S256x2048 .f32) (harg1 : arg1.IsWhole) (arg2 : Memref sig .tc .vmem S256x64 .f32) (harg2 : arg2.IsWhole) (arg3 : Memref sig .tc .vmem S256x64 .f32) (harg3 : arg3.IsWhole) (arg4 : Memref sig .tc .vmem S2048x1536 .bf16) (harg4 : arg4.IsWhole) (arg5 : Memref sig .tc .vmem S1x1536 .f32) (harg5 : arg5.IsWhole) (arg6 : Memref sig .tc .vmem S1536x3072 .bf16) (harg6 : arg6.IsWhole) (arg7 : Memref sig .tc .vmem S2048x576 .bf16) (harg7 : arg7.IsWhole) (arg8 : Memref sig .tc .vmem S1x512 .f32) (harg8 : arg8.IsWhole) (arg9 : Memref sig .tc .vmem S512x4096 .bf16) (harg9 : arg9.IsWhole) (arg10 : Memref sig .tc .vmem S16x256x192 .bf16) (harg10 : arg10.IsWhole) (arg11 : Memref sig .tc .vmem S16x256x192 .bf16) (harg11 : arg11.IsWhole) (arg12 : Memref sig .tc .vmem S16x256x129 .bf16) (harg12 : arg12.IsWhole)
    (x0 : Vec F S256x2048 .f32) (x1 : Vec F S256x64 .f32) (x2 : Vec F S256x64 .f32) (x3 : Vec F S2048x1536 .bf16) (x4 : Vec F S1x1536 .f32) (x5 : Vec F S1536x3072 .bf16) (x6 : Vec F S2048x576 .bf16) (x7 : Vec F S1x512 .f32) (x8 : Vec F S512x4096 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _ _ _ _ _ _ _ _ _ _ _ _ _ _ _ _)).trans ?_
    rfl
  isplitl [H10]
  · iexists _; isplitr
    swap; · iexact H10
    ipureintro
    refine (View.read_writes_eq_canon _ _ _ (cover0_10 _ _ _ _ _ _ _ _ _ _ _ _ _ _ _ _)).trans ?_
    rfl
  iexists _; isplitr
  swap; · iexact H11
  ipureintro
  refine (View.read_writes_eq_canon _ _ _ (cover0_11 _ _ _ _ _ _ _ _ _ _ _ _ _ _ _ _)).trans ?_
  rfl

/-! ## The pipeline's proof data -/

/-- The proof data of the projection's pipeline on core `c`: the arrays as the region finds them; after the body at point `t`
    each input's buffer at its block and each output's at `out0_W` of the input blocks; nothing owed; full shares. -/
def dat (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => iblk W c 8 t
    | ⟨9, _⟩ => out0_9 (iblk W c 0 t) (iblk W c 1 t) (iblk W c 2 t) (iblk W c 3 t) (iblk W c 4 t) (iblk W c 5 t) (iblk W c 6 t) (iblk W c 7 t) (iblk W c 8 t)
    | ⟨10, _⟩ => out0_10 (iblk W c 0 t) (iblk W c 1 t) (iblk W c 2 t) (iblk W c 3 t) (iblk W c 4 t) (iblk W c 5 t) (iblk W c 6 t) (iblk W c 7 t) (iblk W c 8 t)
    | ⟨11, _⟩ => out0_11 (iblk W c 0 t) (iblk W c 1 t) (iblk W c 2 t) (iblk W c 3 t) (iblk W c 4 t) (iblk W c 5 t) (iblk W c 6 t) (iblk W c 7 t) (iblk W c 8 t)
  Φ _ := Pipeline.ΦA spec0 c
  q _ := fullShare
  owed _ := 0

/-- The proof data's arrays are the region-entry contents. -/
theorem A_eq (c : Dev nD) (w : Fin cfg0.W) : (dat W c).A w = W c (Pipeline.arrRef spec0 w) := by
  dsimp only [dat]

/-- What the body leaves, window by window. -/
theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = iblk W c 2 t := by dsimp only [dat]
theorem after0_3 (c : Dev nD) (t : Fin cfg0.N) : (dat W c).after 3 t = iblk W c 3 t := by dsimp only [dat]
theorem after0_4 (c : Dev nD) (t : Fin cfg0.N) : (dat W c).after 4 t = iblk W c 4 t := by dsimp only [dat]
theorem after0_5 (c : Dev nD) (t : Fin cfg0.N) : (dat W c).after 5 t = iblk W c 5 t := by dsimp only [dat]
theorem after0_6 (c : Dev nD) (t : Fin cfg0.N) : (dat W c).after 6 t = iblk W c 6 t := by dsimp only [dat]
theorem after0_7 (c : Dev nD) (t : Fin cfg0.N) : (dat W c).after 7 t = iblk W c 7 t := by dsimp only [dat]
theorem after0_8 (c : Dev nD) (t : Fin cfg0.N) : (dat W c).after 8 t = iblk W c 8 t := by dsimp only [dat]
theorem after0_9 (c : Dev nD) (t : Fin cfg0.N) : (dat W c).after 9 t = out0_9 (iblk W c 0 t) (iblk W c 1 t) (iblk W c 2 t) (iblk W c 3 t) (iblk W c 4 t) (iblk W c 5 t) (iblk W c 6 t) (iblk W c 7 t) (iblk W c 8 t) := by dsimp only [dat]
theorem after0_10 (c : Dev nD) (t : Fin cfg0.N) : (dat W c).after 10 t = out0_10 (iblk W c 0 t) (iblk W c 1 t) (iblk W c 2 t) (iblk W c 3 t) (iblk W c 4 t) (iblk W c 5 t) (iblk W c 6 t) (iblk W c 7 t) (iblk W c 8 t) := by dsimp only [dat]
theorem after0_11 (c : Dev nD) (t : Fin cfg0.N) : (dat W c).after 11 t = out0_11 (iblk W c 0 t) (iblk W c 1 t) (iblk W c 2 t) (iblk W c 3 t) (iblk W c 4 t) (iblk W c 5 t) (iblk W c 6 t) (iblk W c 7 t) (iblk W c 8 t) := by dsimp only [dat]

/-- Each input's staging buffer holds its block at every point. -/
theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d
theorem before0_2 (c : Dev nD) (t : Fin cfg0.N) (d) : (dat W c).before 2 t d = iblk W c 2 t :=
  before0_2_of W (dat W c) (A_eq W c 2) (after0_2 W c) t d
theorem before0_3 (c : Dev nD) (t : Fin cfg0.N) (d) : (dat W c).before 3 t d = iblk W c 3 t :=
  before0_3_of W (dat W c) (A_eq W c 3) (after0_3 W c) t d
theorem before0_4 (c : Dev nD) (t : Fin cfg0.N) (d) : (dat W c).before 4 t d = iblk W c 4 t :=
  before0_4_of W (dat W c) (A_eq W c 4) (after0_4 W c) t d
theorem before0_5 (c : Dev nD) (t : Fin cfg0.N) (d) : (dat W c).before 5 t d = iblk W c 5 t :=
  before0_5_of W (dat W c) (A_eq W c 5) (after0_5 W c) t d
theorem before0_6 (c : Dev nD) (t : Fin cfg0.N) (d) : (dat W c).before 6 t d = iblk W c 6 t :=
  before0_6_of W (dat W c) (A_eq W c 6) (after0_6 W c) t d
theorem before0_7 (c : Dev nD) (t : Fin cfg0.N) (d) : (dat W c).before 7 t d = iblk W c 7 t :=
  before0_7_of W (dat W c) (A_eq W c 7) (after0_7 W c) t d
theorem before0_8 (c : Dev nD) (t : Fin cfg0.N) (d) : (dat W c).before 8 t d = iblk W c 8 t :=
  before0_8_of W (dat W c) (A_eq W c 8) (after0_8 W c) t d

/-! ## The body obligation, at a generic point -/

/-- What the body is called with at point `t`, the windows one by one. -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d))
    ∗ (∃ d, owns (c : Thread nD τ) (st0_9 t) fullShare ((dat W c).before 9 t d))
    ∗ (∃ d, owns (c : Thread nD τ) (st0_10 t) fullShare ((dat W c).before 10 t d))
    ∗ (∃ d, owns (c : Thread nD τ) (st0_11 t) fullShare ((dat W c).before 11 t d)))

/-- What the body returns at point `t`, the windows one by one. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t)
    ∗ owns (c : Thread nD τ) (st0_8 t) fullShare ((dat W c).after 8 t)
    ∗ owns (c : Thread nD τ) (st0_9 t) fullShare ((dat W c).after 9 t)
    ∗ owns (c : Thread nD τ) (st0_10 t) fullShare ((dat W c).after 10 t)
    ∗ owns (c : Thread nD τ) (st0_11 t) fullShare ((dat W c).after 11 t))

/-- The body at any point: the inputs' buffers hold their blocks, so the body's triple applies. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1, before0_2, before0_3, before0_4, before0_5, before0_6, before0_7, before0_8]
  rw [show (dat W c).Φ t.succ = (dat W c).Φ t.castSucc from rfl,
    show (dat W c).owesAt () t.succ = (dat W c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk W c 0 t) (iblk W c 1 t) (iblk W c 2 t) (iblk W c 3 t) (iblk W c 4 t) (iblk W c 5 t) (iblk W c 6 t) (iblk W c 7 t) (iblk W c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body of the projection. -/
theorem defs₀_row (t : Fin cfg0.N) :
    defs₀ (F := F) .tc cfg0.body (cfg0.bodyArgs t (cfg0.slots t)) = bodyAt0 t := by
  unfold defs₀; rw [Defs.onTc_tc]

/-- The body obligation of the projection's pipeline, at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Proj

end
-- ==== Proof.IdealRun.lean ====
module

public import proofs.«01_k».proof.Proof.Gen.KernelIdeal.Regions
public import proofs.«01_k».proof.Proof.IdealAttn
public import proofs.«01_k».proof.Proof.IdealProj
public import Idealize.ShloMosaic.Lib.Pipeline.RegionArraysS
public import Idealize.ShloMosaic.Lib.Pipeline.RegionArraysTS
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

/-! The whole program's run: the two regions' records, what each leaves in the buffers, and the theorem that every execution ends with the
    arguments as launched, the result at the contents that the regions compute, and every counter at zero. -/

@[expose] public section

set_option maxRecDepth 16384
set_option Elab.async false

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-! ## What the regions find and leave -/

/-- The buffers when the projection is entered. -/
abbrev w0 : (c : Dev nD) → (b : Ref sig .tc) → Buf (Elt F) ((c : Thread nD τ).loc b) := fun c b => V1 m c (Proc.devRef .tc b)
/-- The buffers after the projection. -/
def after0 (c : Dev nD) : Valuation τ sig (Elt F) := Pipeline.afterRegion (Proj.dat (w0 m) c) (V1 m c)
def outs0 : Outs (F := F) := fun _ r c => after0 m c (Proc.devRef .tc r)
/-- The buffers when the attention is entered. -/
abbrev w1 : (c : Dev nD) → (b : Ref sig .tc) → Buf (Elt F) ((c : Thread nD τ).loc b) := fun c b => V2 m (outs0 m) c (Proc.devRef .tc b)
/-- The buffers after the attention. -/
def after1 (c : Dev nD) : Valuation τ sig (Elt F) := Pipeline.afterRegion (Attn.dat (w1 m) c) (V2 m (outs0 m) c)
/-- What the regions leave in the buffers that they write. -/
def outs : Outs (F := F) := fun n r c => match n with
  | 2 => after0 m c (Proc.devRef .tc r)
  | _ => after1 m c (Proc.devRef .tc r)

theorem V2_outs (c : Dev nD) : V2 m (outs m) c = V2 m (outs0 m) c := rfl

/-- Which of the projection's arrays it writes, and which of the attention's. -/
theorem out0 : ∀ w : Fin 12, Pipeline.arrRef spec0 w ∉ ([main_v15_0, main_v15_1, main_v15_2] : List (Ref sig .tc)) → (cfg0.win w).isOut = false := by decide
theorem out1 : ∀ w : Fin 5, Pipeline.arrRef spec1 w ∉ ([main_v16] : List (Ref sig .tc)) → ((Attn.cfgA (F := F)).win w).isOut = false := fun
  | ⟨0, _⟩, _ => rfl | ⟨1, _⟩, _ => rfl | ⟨2, _⟩, _ => rfl | ⟨3, _⟩, _ => rfl | ⟨4, _⟩, h => absurd (List.mem_singleton.mpr rfl) h
  | ⟨_ + 5, h⟩, _ => absurd h (by omega)

/-- After the projection the buffers are as the segments' valuation says. -/
theorem after0_eq (c : Dev nD) (r : Ref sig .tc) : after0 m c (Proc.devRef .tc r) = V2 m (outs0 m) c (Proc.devRef .tc r) := by
  by_cases h : r ∈ ([main_v15_0, main_v15_1, main_v15_2] : List (Ref sig .tc))
  · simp only [List.mem_cons, List.not_mem_nil, or_false] at h
    rcases h with rfl | rfl | rfl
    · rw [V2, Function.update_of_ne (StableHlo.devRef_ne_of_ne (by decide)), Function.update_of_ne (StableHlo.devRef_ne_of_ne (by decide)), Function.update_self]; rfl
    · rw [V2, Function.update_of_ne (StableHlo.devRef_ne_of_ne (by decide)), Function.update_self]; rfl
    · rw [V2, Function.update_self]; rfl
  · refine Eq.trans ?_ (V2_of m (outs0 m) c r h).symm
    exact Pipeline.afterRegion_keeps (Proj.dat (w0 m) c) (V1 m c) (launch0 (F := F)).win.arr_inj (fun w => Proj.A_eq (w0 m) c w) r (fun w e => out0 w (e ▸ h))

/-- And after the attention. -/
theorem after1_eq (c : Dev nD) (r : Ref sig .tc) : after1 m c (Proc.devRef .tc r) = V3 m (outs m) c (Proc.devRef .tc r) := by
  by_cases h : r ∈ ([main_v16] : List (Ref sig .tc))
  · obtain rfl := List.mem_singleton.mp h
    rw [V3, Function.update_self]; rfl
  · refine Eq.trans ?_ (V3_of m (outs m) c r h).symm
    exact Pipeline.afterRegion_keeps (Attn.dat (w1 m) c) (V2 m (outs0 m) c) (launch1 (F := F)).win.arr_inj (fun w => rfl) r (fun w e => out1 w (e ▸ h))

/-- The first table as the attention finds it, and the second. -/
theorem tab0 (c : Dev nD) : V2 m (outs0 m) c main_c = Attn.tabI (F := F) := by
  refine (V2_of m (outs0 m) c main_c (by decide)).trans ?_
  rfl
theorem tab1 (c : Dev nD) : V2 m (outs0 m) c main_c_0 = Attn.tabJ (F := F) := by
  refine (V2_of m (outs0 m) c main_c_0 (by decide)).trans ?_
  rfl

/-! ## The proof data and the regions' records -/

/-- The tables' contents, per pipeline: the projection has none. -/
abbrev adms : (p : Fin 2) → (pcfgs (F := F) p).Adm := fun
  | ⟨0, _⟩ => cfg0.toPCfg_adm
  | ⟨1, _⟩ => Attn.adm
  | ⟨_ + 2, h⟩ => absurd h (by omega)

/-- Both pipelines' proof data. -/
abbrev pdats : (p : Fin 2) → (c : Dev nD) → Dat τ (Elt F) Unit ℕ (UR sig nD τ) ℕ (Pipeline.pin (pcfgs (F := F)) adms p) c
  | ⟨0, _⟩ => fun c => Proj.dat (w0 m) c
  | ⟨1, _⟩ => fun c => Attn.dat (w1 m) c
  | ⟨_ + 2, h⟩ => absurd h (by omega)

/-- One index at every semaphore of the TensorCores, all at level 0. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) adms () L lv p (fun _ => 0) (fun _ => 0) where
  hι _ _ _ := by simp [L]
  hιb _ _ _ := le_rfl
  hD _ g i h := absurd h (by simp)

/-- The generator register at some state. -/
abbrev prng (c : Dev nD) : sProp 𝕄 := iprop(∃ r, prngReg c r)
/-- What rides beside the buffers: the core owing nothing, and the register. -/
abbrev Rest (c : Dev nD) : sProp 𝕄 := iprop((∃ Wd, owes (c : Thread nD τ) (0 : CellTallies nD τ sig Unit) Wd) ∗ prng c ∗ BI.emp)

/-- The tables as the region holds them, one by one. -/
theorem tables_eq (c : Dev nD) : (Pipeline.tablesAt (pcfgs (F := F)) adms 1 c : sProp 𝕄)
    = iprop((Attn.tbI.view.loc (c : Thread nD τ) ↦{fullShare} Attn.tabI (F := F)) ∗ (Attn.tbJ.view.loc (c : Thread nD τ) ↦{fullShare} Attn.tabJ (F := F))) := by
  show (Pipeline.prefHeld (Ix := Unit) (Name := ℕ) (U := UR sig nD τ) (Lvl := ℕ) pre1 c (fun _ => fullShare) (Attn.pf (F := F)) : sProp 𝕄) = _
  unfold Pipeline.prefHeld
  rw [show (Finset.univ : Finset (Fin 2)) = insert (0 : Fin 2) {(1 : Fin 2)} from by decide,
    bigSep_insert (by decide), bigSep_singleton]
  rfl

/-- The attention's invariant at its first point, from the scratch buffer and the tables. -/
theorem hin1 (c : Dev nD) : iprop(iprop(Pipeline.scopedRest (Pipeline.pin (pcfgs (F := F)) adms 1).spec c ∗ BI.emp) ∗ Pipeline.tablesAt (pcfgs (F := F)) adms 1 c)
    ⊢ (pdats m 1 c).Φ 0 := by
  rw [show (Pipeline.tablesAt (pcfgs (F := F)) adms 1 c : sProp 𝕄) = iprop((Attn.tbI.view.loc (c : Thread nD τ) ↦{fullShare} Attn.tabI (F := F)) ∗ (Attn.tbJ.view.loc (c : Thread nD τ) ↦{fullShare} Attn.tabJ (F := F))) from tables_eq c,
    show (Pipeline.scopedRest (Pipeline.pin (pcfgs (F := F)) adms 1).spec c : sProp 𝕄) = _ from Attn.rest_eq c,
    show (pdats m 1 c).Φ 0 = Attn.Phi (w1 m) c 0 from rfl]
  unfold Attn.Phi
  iintro ⟨⟨⟨⟨%a0, HS0⟩, HQ⟩, -⟩, HT0, HT1⟩
  isplitl [HS0]
  · iexists a0; isplitr; swap
    · iexact HS0
    · ipureintro; intro h; exact absurd rfl h
  isplitl [HT0]
  · iexact HT0
  isplitl [HT1]
  · iexact HT1
  iexact HQ

/-- And back at its last. -/
theorem hout1 (c : Dev nD) : (pdats m 1 c).Φ (Fin.last (Pipeline.pin (pcfgs (F := F)) adms 1).N)
    ⊢ iprop(iprop(Pipeline.scopedRest (Pipeline.pin (pcfgs (F := F)) adms 1).spec c ∗ BI.emp) ∗ Pipeline.tablesAt (pcfgs (F := F)) adms 1 c) := by
  rw [show (Pipeline.tablesAt (pcfgs (F := F)) adms 1 c : sProp 𝕄) = iprop((Attn.tbI.view.loc (c : Thread nD τ) ↦{fullShare} Attn.tabI (F := F)) ∗ (Attn.tbJ.view.loc (c : Thread nD τ) ↦{fullShare} Attn.tabJ (F := F))) from tables_eq c,
    show (Pipeline.scopedRest (Pipeline.pin (pcfgs (F := F)) adms 1).spec c : sProp 𝕄) = _ from Attn.rest_eq c,
    show (pdats m 1 c).Φ (Fin.last (Pipeline.pin (pcfgs (F := F)) adms 1).N) = Attn.Phi (w1 m) c (Fin.last _) from rfl]
  unfold Attn.Phi
  iintro ⟨⟨%a0, -, HS0⟩, HT0, HT1, HQ⟩
  isplitr [HT0 HT1]; swap
  · isplitl [HT0]
    · iexact HT0
    iexact HT1
  isplitl
  · isplitl [HS0]
    · iexists a0; iexact HS0
    iexact HQ
  iempintro

/-- The projection's record: entered from every buffer at `V1`. -/
abbrev reg0 : RegionSeg (pcfgs (F := F)) adms (pdats m) () defs₀ Variants.none L lv 0 :=
  RegionSeg.ofHeldIn (pcfgs (F := F)) adms (pdats m) () defs₀ Variants.none L lv 0 (fun _ => 0) (Pipeline.ucRefs τ sig) prng prng launch0 rfl
    (fun c => (Proj.body_obligation (w0 m) c).loose) (fun _ _ => rfl) (fun _ => rfl) (fun c w => Dat.share_full _ (fun _ => rfl) w)
    (fun c => .rfl) (fun c => .rfl) (fun _ => 0) (cut 0) (fun _ => BI.emp) (fun c => V1 m c) (fun c w => rfl)

theorem hT1 (c : Dev nD) : ∀ k, (adms (F := F) 1).1 k = V2 m (outs0 m) c (Proc.devRef .tc ((pcfgs (F := F) 1).pre.ref k)) := fun
  | ⟨0, _⟩ => (tab0 m c).symm
  | ⟨1, _⟩ => (tab1 m c).symm
  | ⟨_ + 2, h⟩ => absurd h (by show ¬ (_ < 2); omega)

/-- The attention's record: entered from every buffer at `V2`. -/
abbrev reg1 : RegionSeg (pcfgs (F := F)) adms (pdats m) () defs₀ Variants.none L lv 1 :=
  RegionSeg.ofHeldInT (pcfgs (F := F)) adms (pdats m) () defs₀ Variants.none L lv 1 (fun _ => 0) (Pipeline.ucRefs τ sig) (fun _ => BI.emp) (fun _ => BI.emp) launch1
    (fun c => (Attn.body_obligation (w1 m) c).loose) (fun _ _ => rfl) (fun _ => rfl) (fun c w => Dat.share_full _ (fun _ => rfl) w)
    (hin1 m) (hout1 m) (fun _ => 0) (cut 1) prng (fun c => V2 m (outs0 m) c) (fun c w => rfl) (hT1 m)

/-- Every held buffer is a reference's. -/
theorem uc_ref {b : DevRef τ sig} (h : b ∈ Pipeline.ucRefs τ sig) : ∃ r : Ref sig .tc, b = Proc.devRef .tc r := by
  obtain ⟨r, -, e⟩ := Finset.mem_map.mp (Finset.mem_filter.mp h).1
  exact ⟨r, e.symm⟩

theorem arr0_sub : Pipeline.arrRefs (τ := τ) (pcfgs (F := F) 0).spec ⊆ Pipeline.ucRefs τ sig := Pipeline.arrRefs_sub_ucRefs spec0 (by decide)
theorem arr1_sub : Pipeline.arrRefs (τ := τ) (pcfgs (F := F) 1).spec ⊆ Pipeline.ucRefs τ sig := Pipeline.arrRefs_sub_ucRefs spec1 (by decide)
theorem tbl1_sub : Pipeline.tblRefs (τ := τ) (pcfgs (F := F) 1).pre ⊆ Pipeline.ucRefs τ sig := Pipeline.tblRefs_sub_ucRefs pre1 (by decide)

theorem pre0 (c : Dev nD) : iprop(StableHlo.held (c : Thread nD τ) (Pipeline.ucRefs τ sig) (V1 m c) ∗ Rest c) ⊢ (reg0 m).pre c := by
  refine BIBase.Entails.trans ?_ (RegionSeg.ofHeldIn_pre (pcs := pcfgs (F := F)) (a := adms) (pdats := pdats m) (ι := ()) (defs₀ := defs₀) (𝒱₀ := Variants.none) (L := L) (lv := lv) (D := fun _ => 0) (p := 0) arr0_sub c)
  exact BIBase.Entails.rfl
theorem post0 (c : Dev nD) : (reg0 m).post c ⊢ iprop(StableHlo.held (c : Thread nD τ) (Pipeline.ucRefs τ sig) (V2 m (outs m) c) ∗ Rest c) := by
  refine (RegionSeg.ofHeldIn_post (pcs := pcfgs (F := F)) (a := adms) (pdats := pdats m) (ι := ()) (defs₀ := defs₀) (𝒱₀ := Variants.none) (L := L) (lv := lv) (D := fun _ => 0) (p := 0) arr0_sub c).trans ?_
  rw [StableHlo.held_congr (c : Thread nD τ) (V' := V2 m (outs m) c) fun b hb => by
    obtain ⟨r, rfl⟩ := uc_ref hb
    exact after0_eq m c r]
theorem pre1' (c : Dev nD) : iprop(StableHlo.held (c : Thread nD τ) (Pipeline.ucRefs τ sig) (V2 m (outs m) c) ∗ Rest c) ⊢ (reg1 m).pre c := by
  refine BIBase.Entails.trans ?_ (RegionSeg.ofHeldInT_pre (pcs := pcfgs (F := F)) (a := adms) (pdats := pdats m) (ι := ()) (defs₀ := defs₀) (𝒱₀ := Variants.none) (L := L) (lv := lv) (D := fun _ => 0) (p := 1) arr1_sub tbl1_sub c)
  iintro ⟨H, Ho, HP, -⟩
  isplitl [H]; · iexact H
  isplitl [Ho]; · iexact Ho
  isplitr [HP]; · iempintro
  iexact HP
theorem post1 (c : Dev nD) : (reg1 m).post c ⊢ iprop(StableHlo.held (c : Thread nD τ) (Pipeline.ucRefs τ sig) (V3 m (outs m) c) ∗ Rest c) := by
  refine (RegionSeg.ofHeldInT_post (pcs := pcfgs (F := F)) (a := adms) (pdats := pdats m) (ι := ()) (defs₀ := defs₀) (𝒱₀ := Variants.none) (L := L) (lv := lv) (D := fun _ => 0) (p := 1) arr1_sub tbl1_sub c).trans ?_
  rw [StableHlo.held_congr (c : Thread nD τ) (V' := V3 m (outs m) c) fun b hb => by
    obtain ⟨r, rfl⟩ := uc_ref hb
    exact after1_eq m c r]
  iintro ⟨H, Ho, -, HP⟩
  isplitl [H]; · iexact H
  isplitl [Ho]; · iexact Ho
  isplitl [HP]; · iexact HP
  iempintro

/-! ## The run -/

/-- On one core: what it is launched with holds the buffers at `V0` and gives what rides beside them. -/
theorem launch_core (ρ : Dev nD → PrngReg) (c : Dev nD) : iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp)
    ⊢ (iprop(StableHlo.held (c : Thread nD τ) (Pipeline.ucRefs τ sig) (V0 m c) ∗ Rest c) : sProp 𝕄) := by
  iintro ⟨H, -, Ho, -, HP, -⟩
  isplitl [H]
  · iapply (show (unscopedBufs c (fun b => m ((c.tc : Thread nD τ).loc b)) : sProp 𝕄) ⊢ StableHlo.held (c : Thread nD τ) (Pipeline.ucRefs τ sig) (V0 m c) from
      Entails.of_eq (Pipeline.unscopedBufs_held (Ix := Unit) (Name := ℕ) (U := UR sig nD τ) (Lvl := ℕ) c (V0 m c)))
    iexact H
  isplitl [Ho]; · iexists _; iexact Ho
  isplitl [HP]; · iexists _; iexact HP
  iempintro

set_option backward.isDefEq.respectTransparency.types false in
set_option maxHeartbeats 4000000 in
/-- From any memory with every counter at zero, every fair execution of the program ends, with every argument as launched, the result at
    what the last valuation says, and every counter at zero. -/
theorem run (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.mem ((c.tc : Thread nD τ).loc main_v17) = V4 m (outs m) c main_v17)
      ∧ r.2.sem = fun _ => 0) := by
  refine Pipeline.θ_run_regions_kit_dev_sems (pcfgs (F := F)) adms (pdats m) () (cellOf_inj adms) emb₁ defs₀ Variants.none L lv m ρ main
    (segs m (outs m) Variants.none L lv (fun _ => Rest) () adms (pdats m) (reg0 m) (reg1 m))
    (fun c Q => by
      rewrite [main_chain c, Seg.run_eq_chain,
        show (segs m (outs m) Variants.none L lv (fun _ => Rest) () adms (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g h => if_neg h) (fun _ => BI.emp) (initOf (Pipeline.cells (Pipeline.pin (pcfgs (F := F)) adms) (cellOf_inj adms)) (Pipeline.launchToks (Pipeline.pin (pcfgs (F := F)) adms) (cellOf_inj adms))) ?_
    (T₀ := fun c => iprop(StableHlo.held (c : Thread nD τ) (Pipeline.ucRefs τ sig) (V0 m c) ∗ Rest c))
    (Tₙ := fun c => StableHlo.held (c : Thread nD τ) (Pipeline.ucRefs τ sig) (V4 m (outs m) c))
    (hch := fun c => ⟨.rfl, pre0 m c, (post0 m c).trans (pre1' m c), post1 m c, sep_mono .rfl (by iintro ⟨H, -⟩; iexact H)⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9)) ∧ s.mem ((c.tc : Thread nD τ).loc main_v17) = V4 m (outs m) c main_v17)
    (hfin := fun c s' => ?_) (hQ := fun _ h hz => ⟨h, funext fun g => hz g (.inr (regions_no_unscoped g.2))⟩)
  · iintro Hu
    imodintro
    isplitl [Hu]
    · iapply (show (ownU (initOf (Pipeline.cells (Pipeline.pin (pcfgs (F := F)) adms) (cellOf_inj adms)) (Pipeline.launchToks (Pipeline.pin (pcfgs (F := F)) adms) (cellOf_inj adms))) : sProp 𝕄) ⊢ BI.own (emb₁ (initOf (Pipeline.cells (Pipeline.pin (pcfgs (F := F)) adms) (cellOf_inj adms)) (Pipeline.launchToks (Pipeline.pin (pcfgs (F := F)) adms) (cellOf_inj adms)))) from .rfl)
      iexact Hu
    iapply (show (BI.emp : sProp 𝕄) ⊢ bigSep Finset.univ (fun _ : Dev nD => (BI.emp : sProp 𝕄)) from by rw [BI.bigSep_emp_const])
    iempintro
  · -- the launch: the unscoped buffers are held at `V0`, and the rest gives what rides beside them
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (bigSep Finset.univ fun c : Dev nD => iprop(StableHlo.held (c : Thread nD τ) (Pipeline.ucRefs τ sig) (V0 m c) ∗ Rest c) : sProp 𝕄) := by
      exact bigSep_mono fun c _ => launch_core m ρ c
    iintro ⟨H, -⟩
    imodintro
    iapply hsplit
    iexact H
  · -- the end: the arguments' and the result's buffers read off the last valuation
    unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c),
        (h (Proc.devRef .tc main_arg4) (Finset.mem_filter.mpr ⟨StableHlo.devRef_mem_tcRefs main_arg4, by decide⟩)).trans (V4_main_arg4 m (outs m) c),
        (h (Proc.devRef .tc main_arg5) (Finset.mem_filter.mpr ⟨StableHlo.devRef_mem_tcRefs main_arg5, by decide⟩)).trans (V4_main_arg5 m (outs m) c),
        (h (Proc.devRef .tc main_arg6) (Finset.mem_filter.mpr ⟨StableHlo.devRef_mem_tcRefs main_arg6, by decide⟩)).trans (V4_main_arg6 m (outs m) c),
        (h (Proc.devRef .tc main_arg7) (Finset.mem_filter.mpr ⟨StableHlo.devRef_mem_tcRefs main_arg7, by decide⟩)).trans (V4_main_arg7 m (outs m) c),
        (h (Proc.devRef .tc main_arg8) (Finset.mem_filter.mpr ⟨StableHlo.devRef_mem_tcRefs main_arg8, by decide⟩)).trans (V4_main_arg8 m (outs m) c),
        (h (Proc.devRef .tc main_arg9) (Finset.mem_filter.mpr ⟨StableHlo.devRef_mem_tcRefs main_arg9, by decide⟩)).trans (V4_main_arg9 m (outs m) c)⟩,
        h (Proc.devRef .tc main_v17) (Finset.mem_filter.mpr ⟨StableHlo.devRef_mem_tcRefs main_v17, by decide⟩)⟩
    · iexact HSI

end Cert.KernelIdeal.Run

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameRun
public import proofs.«01_k».proof.Proof.IdealRun
public import Idealize.ShloMosaic.Lib.Quiescent

/-! The three frames and the named constant. -/

@[expose] public section

noncomputable section

namespace Cert.Proof

open Idealize.ShloMosaic Idealize.SL.Sem

/-- The kernel runs, its arguments end as launched, and every counter ends at zero. -/
theorem frame_kernel : Cert.quiescent_Kernel := fun m ρ _ =>
  (θ_run Cert.Kernel.defs _ _).mono (fun r h => ⟨fun c => (h.1 c).1, h.2⟩) (Cert.Kernel.Run.run (F := Bits) m ρ)

/-- So does the idealized kernel. -/
theorem frame_ideal : Cert.quiescent_KernelIdeal := fun m ρ _ =>
  (θ_run Cert.KernelIdeal.defs _ _).mono (fun r h => ⟨fun c => (h.1 c).1, h.2⟩) (Cert.KernelIdeal.Run.run (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask's word is named, and the table gives the name minus infinity. -/
theorem preserves : Cert.preserves_Kernel_KernelIdeal :=
  IdealRules.named_const.statement Cert.KernelIdeal.κ "mask" .bf16 0xF14A#16 ⊥ rfl

end Cert.Proof

end
-- ==== Proof.Spec.lean ====
module

public import Idealize.ShloMosaic.Lib.Pointwise

/-! The layer written plainly on extended reals, one row of the input at a time: the two low-rank projections with their
    normalisations, the rotary embedding, and a head's query, key and value entries. -/

@[expose] public section

noncomputable section

namespace Cert.Spec

open Idealize.ShloMosaic

/-- The numbers the programs write as 32-bit words: the normalisations' small term, their two lengths, and the scale of
    the scores. -/
abbrev epsN : EReal := Scalar.ofBits (F := Ideal) .f32 0x358637BD#32
abbrev lenQ : EReal := Scalar.ofBits (F := Ideal) .f32 0x44C00000#32
abbrev lenK : EReal := Scalar.ofBits (F := Ideal) .f32 0x44000000#32
abbrev scl : EReal := Scalar.ofBits (F := Ideal) .f32 0x3D93CD3A#32

/-- A row times a matrix whose rows are the outputs. -/
def lin {n k : ℕ} (x : Fin k → EReal) (w : Fin n → Fin k → EReal) (j : Fin n) : EReal := ∑ i : Fin k, x i * w j i

/-- The factor a row is normalised by: the reciprocal root of its mean square, the small term added. -/
def inv {n : ℕ} (N : EReal) (a : Fin n → EReal) : EReal := Ideal.rsqrt (Ideal.div (∑ j : Fin n, a j * a j) N + epsN)

/-- A row normalised and weighted. -/
def nrm {n : ℕ} (N : EReal) (a : Fin n → EReal) (w : Fin n → EReal) (j : Fin n) : EReal := a j * inv N a * w j

/-- The rotary embedding of 64 entries. -/
def rope (c s u : Fin 64 → EReal) (d : Fin 64) : EReal :=
  if h : d.val < 32 then u d * c d - u ⟨d.val + 32, by omega⟩ * s d
  else u d * c d + u ⟨d.val - 32, by omega⟩ * s d

/-- The query row of all heads, unscaled. -/
def qrow (x : Fin 2048 → EReal) (wa : Fin 1536 → Fin 2048 → EReal) (g : Fin 1536 → EReal) (wb : Fin 3072 → Fin 1536 → EReal) :
    Fin 3072 → EReal := lin (nrm lenQ (lin x wa) g) wb

/-- The first 512 entries of the second projection. -/
def lat (x : Fin 2048 → EReal) (wa : Fin 576 → Fin 2048 → EReal) (n : Fin 512) : EReal := lin x wa ⟨n.val, by omega⟩

/-- The key and value row of all heads. -/
def kvrow (x : Fin 2048 → EReal) (wa : Fin 576 → Fin 2048 → EReal) (g : Fin 512 → EReal) (wb : Fin 4096 → Fin 512 → EReal) :
    Fin 4096 → EReal := lin (nrm lenK (lat x wa) g) wb

/-- The 64 entries every head's key shares, embedded. -/
def kpe (x : Fin 2048 → EReal) (c s : Fin 64 → EReal) (wa : Fin 576 → Fin 2048 → EReal) : Fin 64 → EReal :=
  rope c s fun d => lin x wa ⟨d.val + 512, by omega⟩

/-- Head `h`'s query entries from the row of all heads, each multiplied by `z` before the embedding. -/
def qent (z : EReal) (q : Fin 3072 → EReal) (c s : Fin 64 → EReal) (h : Fin 16) (d : Fin 192) : EReal :=
  if hd : d.val < 128 then q ⟨192 * h.val + d.val, by omega⟩ * z
  else rope c s (fun e => q ⟨192 * h.val + 128 + e.val, by omega⟩ * z) ⟨d.val - 128, by omega⟩

/-- Head `h`'s key entries. -/
def kent (kv : Fin 4096 → EReal) (pe : Fin 64 → EReal) (h : Fin 16) (d : Fin 192) : EReal :=
  if hd : d.val < 128 then kv ⟨256 * h.val + d.val, by omega⟩ else pe ⟨d.val - 128, by omega⟩

/-- Head `h`'s value entries, and a one behind them. -/
def vent (kv : Fin 4096 → EReal) (h : Fin 16) (d : Fin 129) : EReal :=
  if hd : d.val < 128 then kv ⟨256 * h.val + 128 + d.val, by omega⟩ else 1

end Cert.Spec

end
-- ==== Proof.Math.lean ====
module

public import proofs.«01_k».proof.Proof.Spec

/-! Real numbers inside the extended reals: the layer's entries are real when the arguments are, the scale may be taken out
    of a score, and the attention with each query's largest score taken off is the attention without. -/

@[expose] public section

noncomputable section

namespace Cert.Spec

open Idealize.ShloMosaic

/-- `x` is a real number. -/
def IsReal (x : EReal) : Prop := ∃ a : ℝ, x = a

theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩

theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.sum {ι : Type*} {S : Finset ι} {f : ι → EReal} (h : ∀ i, IsReal (f i)) : IsReal (∑ i ∈ S, f i) := by
  choose g hg using h
  exact ⟨∑ i ∈ S, g i, by rw [coe_sum]; exact Finset.sum_congr rfl fun i _ => hg i⟩

theorem lenQ_eq : lenQ = ((1536 : ℝ) : EReal) := by
  show Ideal.ofBits .f32 0x44C00000#32 = _
  simp [Ideal.ofBits, Ideal.ieee, -EReal.coe_mul]; norm_num
theorem lenK_eq : lenK = ((512 : ℝ) : EReal) := by
  show Ideal.ofBits .f32 0x44000000#32 = _
  simp [Ideal.ofBits, Ideal.ieee, -EReal.coe_mul]; norm_num
theorem epsN_eq : ∃ a : ℝ, 0 < a ∧ epsN = (a : EReal) := by
  refine ⟨_, ?_, show Ideal.ofBits .f32 0x358637BD#32 = _ by simp [Ideal.ofBits, Ideal.ieee, -EReal.coe_mul]; rfl⟩
  positivity
theorem scl_eq : ∃ a : ℝ, scl = (a : EReal) :=
  ⟨_, show Ideal.ofBits .f32 0x3D93CD3A#32 = _ by simp [Ideal.ofBits, Ideal.ieee, -EReal.coe_mul]; rfl⟩

/-- A quotient of reals, the divisor not zero. -/
theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem isReal_lin {n k : ℕ} {x : Fin k → EReal} {w : Fin n → Fin k → EReal} (hx : ∀ i, IsReal (x i)) (hw : ∀ j i, IsReal (w j i)) (j : Fin n) :
    IsReal (lin x w j) := IsReal.sum fun i => (hx i).mul (hw j i)

theorem isReal_inv {n : ℕ} {N : EReal} {L : ℝ} (hL : 0 < L) (hN : N = (L : EReal)) {a : Fin n → EReal} (ha : ∀ j, IsReal (a j)) : IsReal (inv N a) := by
  choose g hg using ha
  obtain ⟨e, he, hee⟩ := epsN_eq
  have hs : (∑ j, a j * a j) = ((∑ j, g j * g j : ℝ) : EReal) := by
    rw [coe_sum]
    exact Finset.sum_congr rfl fun j _ => by rw [hg j, EReal.coe_mul]
  have h0 : 0 ≤ ∑ j, g j * g j := Finset.sum_nonneg fun j _ => mul_self_nonneg _
  have hp : 0 < (∑ j, g j * g j) / L + e := add_pos_of_nonneg_of_pos (div_nonneg h0 hL.le) he
  unfold inv
  rw [hs, hN, hee, div_real _ _ hL.ne', ← EReal.coe_add]
  refine ⟨(Real.sqrt ((∑ j, g j * g j) / L + e))⁻¹, ?_⟩
  show (if _ then _ else if _ then _ else _) = _
  rw [if_neg (not_lt.mpr hp.le), if_neg hp.ne']

theorem isReal_nrm {n : ℕ} {N : EReal} {L : ℝ} (hL : 0 < L) (hN : N = (L : EReal)) {a w : Fin n → EReal} (ha : ∀ j, IsReal (a j)) (hw : ∀ j, IsReal (w j)) (j : Fin n) :
    IsReal (nrm N a w j) := ((ha j).mul (isReal_inv hL hN ha)).mul (hw j)

theorem isReal_rope {c s u : Fin 64 → EReal} (hc : ∀ d, IsReal (c d)) (hs : ∀ d, IsReal (s d)) (hu : ∀ d, IsReal (u d)) (d : Fin 64) : IsReal (rope c s u d) := by
  unfold rope
  split
  · exact ((hu _).mul (hc _)).sub ((hu _).mul (hs _))
  · exact ((hu _).mul (hc _)).add ((hu _).mul (hs _))

/-- Reals embedded after a multiplication are the embedded ones multiplied. -/
theorem rope_mul {c s u : Fin 64 → EReal} {z : EReal} (hc : ∀ d, IsReal (c d)) (hs : ∀ d, IsReal (s d)) (hu : ∀ d, IsReal (u d)) (hz : IsReal z) (d : Fin 64) :
    rope c s (fun e => u e * z) d = rope c s u d * z := by
  choose c' hc using hc
  choose s' hs using hs
  choose u' hu using hu
  obtain ⟨z', hz⟩ := hz
  unfold rope
  simp only [hc, hs, hu, hz]
  split
  · norm_cast
    ring
  · norm_cast
    ring

/-- Head `h`'s query entries, unscaled: the part that is not embedded, and the embedded part. -/
def qraw (q : Fin 3072 → EReal) (c s : Fin 64 → EReal) (h : Fin 16) (d : Fin 192) : EReal :=
  if hd : d.val < 128 then q ⟨192 * h.val + d.val, by omega⟩
  else rope c s (fun e => q ⟨192 * h.val + 128 + e.val, by omega⟩) ⟨d.val - 128, by omega⟩

theorem isReal_qraw {q : Fin 3072 → EReal} {c s : Fin 64 → EReal} (hq : ∀ d, IsReal (q d)) (hc : ∀ d, IsReal (c d)) (hs : ∀ d, IsReal (s d)) (h : Fin 16) (d : Fin 192) :
    IsReal (qraw q c s h d) := by
  unfold qraw
  split
  · exact hq _
  · exact isReal_rope hc hs (fun _ => hq _) _

theorem isReal_kent {kv : Fin 4096 → EReal} {pe : Fin 64 → EReal} (hk : ∀ d, IsReal (kv d)) (hp : ∀ d, IsReal (pe d)) (h : Fin 16) (d : Fin 192) : IsReal (kent kv pe h d) := by
  unfold kent
  split
  · exact hk _
  · exact hp _

theorem qent_eq {q : Fin 3072 → EReal} {c s : Fin 64 → EReal} {z : EReal} (hq : ∀ d, IsReal (q d)) (hc : ∀ d, IsReal (c d)) (hs : ∀ d, IsReal (s d)) (hz : IsReal z)
    (h : Fin 16) (d : Fin 192) : qent z q c s h d = qraw q c s h d * z := by
  unfold qent qraw
  split
  · rfl
  · exact rope_mul hc hs (fun _ => hq _) hz _

/-- A real factor may be taken out of a sum of reals. -/
theorem sum_mul_real {n : ℕ} {x y : Fin n → EReal} {z : EReal} (hx : ∀ d, IsReal (x d)) (hy : ∀ d, IsReal (y d)) (hz : IsReal z) :
    (∑ d, x d * z * y d) = (∑ d, x d * y d) * z := by
  choose x' hx using hx
  choose y' hy using hy
  obtain ⟨z', hz⟩ := hz
  simp only [hx, hy, hz, ← EReal.coe_mul, ← coe_sum]
  congr 1
  rw [Finset.sum_mul]
  exact Finset.sum_congr rfl fun d _ => by ring

/-- The quotient of the two sums over the keys a query attends to is the sum of the values weighted by the probabilities,
    whatever real number is taken off the scores first. -/
theorem attn {n : ℕ} (r : Fin n) {s v : Fin n → EReal} {M : EReal} (hs : ∀ k, IsReal (s k)) (hv : ∀ k, IsReal (v k)) (hM : IsReal M) :
    Ideal.div (∑ k : Fin n, if k.val ≤ r.val then Ideal.exp (s k) * v k else 0) (∑ k : Fin n, if k.val ≤ r.val then Ideal.exp (s k) * 1 else 0)
      = ∑ k : Fin n, v k * Ideal.div (Ideal.exp (s k + (if k.val ≤ r.val then 0 else ⊥) - M)) (∑ j : Fin n, Ideal.exp (s j + (if j.val ≤ r.val then 0 else ⊥) - M)) := by
  choose s' hs using hs
  choose v' hv using hv
  obtain ⟨m, hM⟩ := hM
  let p : Fin n → ℝ := fun k => if k.val ≤ r.val then Real.exp (s' k) else 0
  have hp : 0 < ∑ k, p k :=
    Finset.sum_pos' (fun k _ => by show 0 ≤ ite _ _ _; split; exacts [(Real.exp_pos _).le, le_rfl]) ⟨r, Finset.mem_univ r, by show 0 < ite _ _ _; rw [if_pos le_rfl]; exact Real.exp_pos _⟩
  have e1 : (∑ k : Fin n, if k.val ≤ r.val then Ideal.exp (s k) * v k else 0) = ((∑ k, p k * v' k : ℝ) : EReal) := by
    rw [coe_sum]
    refine Finset.sum_congr rfl fun k _ => ?_
    by_cases l : k.val ≤ r.val
    · rw [if_pos l, hs, hv, show p k = Real.exp (s' k) from if_pos l, EReal.coe_mul]; rfl
    · rw [if_neg l, show p k = 0 from if_neg l, zero_mul, EReal.coe_zero]
  have e2 : (∑ k : Fin n, if k.val ≤ r.val then Ideal.exp (s k) * 1 else 0) = ((∑ k, p k : ℝ) : EReal) := by
    rw [coe_sum]
    refine Finset.sum_congr rfl fun k _ => ?_
    by_cases l : k.val ≤ r.val
    · rw [if_pos l, hs, show p k = Real.exp (s' k) from if_pos l, mul_one]; rfl
    · rw [if_neg l, show p k = 0 from if_neg l, EReal.coe_zero]
  have e3 : ∀ k : Fin n, Ideal.exp (s k + (if k.val ≤ r.val then 0 else ⊥) - M) = ((p k * Real.exp (-m) : ℝ) : EReal) := fun k => by
    by_cases l : k.val ≤ r.val
    · rw [if_pos l, hs, hM, add_zero, ← EReal.coe_sub, show p k = Real.exp (s' k) from if_pos l, ← Real.exp_add, ← sub_eq_add_neg]; rfl
    · rw [if_neg l, show p k = 0 from if_neg l, zero_mul, EReal.add_bot, EReal.bot_sub, EReal.coe_zero]; rfl
  have hc : (∑ k, p k * Real.exp (-m)) ≠ 0 := by
    rw [← Finset.sum_mul]
    exact (mul_pos hp (Real.exp_pos _)).ne'
  rw [e1, e2, div_real _ _ hp.ne']
  simp only [e3, ← coe_sum, div_real _ _ hc, hv, ← EReal.coe_mul]
  congr 1
  rw [Finset.sum_div]
  refine Finset.sum_congr rfl fun k _ => ?_
  rw [← Finset.sum_mul, mul_div_mul_right _ _ (Real.exp_pos _).ne']
  ring

end Cert.Spec

end
-- ==== Proof.Finite.lean ====
module

public import proofs.«01_k».proof.Pre_finite
public import proofs.«01_k».proof.Proof.Math
public import Idealize.ShloMosaic.Lib.ReduceAll

/-! What the precondition says: every entry of every argument but the output projection's weights is a real number. -/

@[expose] public section

set_option maxRecDepth 16384

noncomputable section

namespace Cert.Pre_finite

open Idealize.ShloMosaic Cert.Spec

/-- The side conditions of the precondition's operations. -/
theorem facts : Facts where
  bcast_S_S1x2048x2048 := by decide
  reducesTo_S1x2048x2048_S_d0_1_2 := by decide
  h_S_ := by decide
  bcast_S_S1x2048x64 := by decide
  reducesTo_S1x2048x64_S_d0_1_2 := by decide
  bcast_S_S1536x2048 := by decide
  reducesTo_S1536x2048_S_d0_1 := by decide
  bcast_S_S1536 := by decide
  reducesTo_S1536_S_d0 := by decide
  bcast_S_S3072x1536 := by decide
  reducesTo_S3072x1536_S_d0_1 := by decide
  bcast_S_S576x2048 := by decide
  reducesTo_S576x2048_S_d0_1 := by decide
  bcast_S_S512 := by decide
  reducesTo_S512_S_d0 := by decide
  bcast_S_S4096x512 := by decide
  reducesTo_S4096x512_S_d0_1 := by decide

theorem pos_inf : (Ideal.ofBits .f32 0x7F800000#32 : EReal) = ⊤ := by
  simp [Ideal.ofBits, Ideal.ieee]

/-- An array of which every entry's absolute value is below infinity holds reals. -/
theorem real_of_all {s : Shape} {axes : List (Fin s.rank)} (x : s.Idx → EReal) (init : S_.Idx → BitVec 1) (hb : S_.BroadcastsInDim s ![]) (h : s.ReducesTo axes S_) (hu : 0 < S_.numel)
    (j : S_.Idx) (e : Host.reduce IntOp.andi (cmpf (F := Ideal) .olt (Host.absf (F := Ideal) (φ := .f32) x) (broadcastInDim s ![] hb (constant (F := Ideal) S_ .f32 0x7F800000#32))) init h hu j = 1#1) (i : s.Idx) :
    IsReal (x i) := by
  haveI : Subsingleton S_.Idx := ⟨fun a b => funext fun k => k.elim0⟩
  have g := Host.reduce_andi_all _ _ h hu j e i
  have g' : Ideal.cmp .olt (max (x i) (-(x i))) (Ideal.ofBits .f32 0x7F800000#32) = 1#1 := g
  rw [pos_inf] at g'
  have l : max (x i) (-(x i)) < ⊤ := by
    by_contra n
    rw [Ideal.cmp] at g'
    simp [n] at g'
  generalize x i = y at l
  induction y with
  | bot => simp at l
  | top => simp at l
  | coe a => exact ⟨a, rfl⟩

/-- The nine arguments hold reals where the precondition is one. -/
theorem real_args [Facts] (a0 : S1x2048x2048.Idx → EReal) (a1 a2 : S1x2048x64.Idx → EReal) (a3 : S1536x2048.Idx → EReal) (a4 : S1536.Idx → EReal) (a5 : S3072x1536.Idx → EReal)
    (a6 : S576x2048.Idx → EReal) (a7 : S512.Idx → EReal) (a8 : S4096x512.Idx → EReal) (a9 : S2048x2048.Idx → EReal)
    (e : fn (F := Ideal) a0 a1 a2 a3 a4 a5 a6 a7 a8 a9 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) := by
  have g := congrFun e ix0
  unfold fn fn_part1 fn_part2 at g
  obtain ⟨g, h8⟩ := IntOp.andi_eq_one.1 g
  obtain ⟨g, h7⟩ := IntOp.andi_eq_one.1 g
  obtain ⟨g, h6⟩ := IntOp.andi_eq_one.1 g
  obtain ⟨g, h5⟩ := IntOp.andi_eq_one.1 g
  obtain ⟨g, h4⟩ := IntOp.andi_eq_one.1 g
  obtain ⟨g, h3⟩ := IntOp.andi_eq_one.1 g
  obtain ⟨g, h2⟩ := IntOp.andi_eq_one.1 g
  obtain ⟨h0, h1⟩ := IntOp.andi_eq_one.1 g
  exact ⟨real_of_all _ _ _ _ _ _ h0, real_of_all _ _ _ _ _ _ h1, real_of_all _ _ _ _ _ _ h2, real_of_all _ _ _ _ _ _ h3, real_of_all _ _ _ _ _ _ h4,
    real_of_all _ _ _ _ _ _ h5, real_of_all _ _ _ _ _ _ h6, real_of_all _ _ _ _ _ _ h7, real_of_all _ _ _ _ _ _ h8⟩

end Cert.Pre_finite

end
-- ==== Proof.IdealProjTiles.lean ====
module

public import proofs.«01_k».proof.Proof.IdealProj
public import proofs.«01_k».proof.Proof.Spec
public import Idealize.ShloMosaic.Lib.Pointwise

/-! The projection call's three outputs head by head: each is one tile per head, the same function of the head's number. -/

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## A head's tiles -/

theorem slices_q (h : Fin 16) : S256x3072.Slices ![0, 192 * h.val] S256x192 := by fin_cases h <;> decide
theorem slices_k (h : Fin 16) : S256x4096.Slices ![0, 256 * h.val] S256x128 := by fin_cases h <;> decide
theorem slices_v (h : Fin 16) : S256x4096.Slices ![0, 256 * h.val + 128] S256x128 := by fin_cases h <;> decide

/-- The rotary embedding of 256 rows of 64 entries. -/
def ropeT (c s u : FVec F S256x64 .f32) : FVec F S256x64 .f32 :=
  concatenate S256x64 1
    [⟨S256x32, subf (mulf (extractStridedSlice S256x32 ![0, 0] u slices_S256x64_o0_0_S256x32) (extractStridedSlice S256x32 ![0, 0] c slices_S256x64_o0_0_S256x32))
        (mulf (extractStridedSlice S256x32 ![0, 32] u slices_S256x64_o0_32_S256x32) (extractStridedSlice S256x32 ![0, 0] s slices_S256x64_o0_0_S256x32))⟩,
     ⟨S256x32, addf (mulf (extractStridedSlice S256x32 ![0, 32] u slices_S256x64_o0_32_S256x32) (extractStridedSlice S256x32 ![0, 32] c slices_S256x64_o0_32_S256x32))
        (mulf (extractStridedSlice S256x32 ![0, 0] u slices_S256x64_o0_0_S256x32) (extractStridedSlice S256x32 ![0, 32] s slices_S256x64_o0_32_S256x32))⟩]
    concatenates_S256x32_S256x32_S256x64_d1

/-- Head `h`'s columns of the queries, scaled. -/
def qCols (q : FVec F S256x3072 .f32) (h : Fin 16) : FVec F S256x192 .f32 :=
  mulf (extractStridedSlice S256x192 ![0, 192 * h.val] q (slices_q h)) (broadcast S256x192 (Scalar.ofBits .f32 0x3D93CD3A#32))

/-- Head `h`'s stored queries. -/
def qTile (c s : FVec F S256x64 .f32) (q : FVec F S256x3072 .f32) (h : Fin 16) : FVec F S1x256x192 .bf16 :=
  shapeCast S1x256x192 (truncf .bf16 (concatenate S256x192 1
    [⟨S256x128, extractStridedSlice S256x128 ![0, 0] (qCols q h) slices_S256x192_o0_0_S256x128⟩,
     ⟨S256x64, ropeT c s (extractStridedSlice S256x64 ![0, 128] (qCols q h) slices_S256x192_o0_128_S256x64)⟩]
    concatenates_S256x128_S256x64_S256x192_d1) bitsLt_bf16_f32) shapeCasts_S256x192_S1x256x192

/-- Head `h`'s stored keys. -/
def kTile (kv : FVec F S256x4096 .f32) (pe : FVec F S256x64 .f32) (h : Fin 16) : FVec F S1x256x192 .bf16 :=
  shapeCast S1x256x192 (truncf .bf16 (concatenate S256x192 1
    [⟨S256x128, extractStridedSlice S256x128 ![0, 256 * h.val] kv (slices_k h)⟩, ⟨S256x64, pe⟩]
    concatenates_S256x128_S256x64_S256x192_d1) bitsLt_bf16_f32) shapeCasts_S256x192_S1x256x192

/-- Head `h`'s stored values. -/
def vTile (kv : FVec F S256x4096 .f32) (one : FVec F S256x1 .f32) (h : Fin 16) : FVec F S1x256x129 .bf16 :=
  shapeCast S1x256x129 (truncf .bf16 (concatenate S256x129 1
    [⟨S256x128, extractStridedSlice S256x128 ![0, 256 * h.val + 128] kv (slices_v h)⟩, ⟨S256x1, one⟩]
    concatenates_S256x128_S256x1_S256x129_d1) bitsLt_bf16_f32) shapeCasts_S256x129_S1x256x129

/-! ## A stack of stores, one head each -/

/-- Stores of the heads below `n`, the newest first, of `D` columns each. -/
def stack (D : ℕ) (f : Fin 16 → (⟨3, ![1, 256, D]⟩ : Shape).Idx → Elt F .bf16)
    (inb : ∀ h : Fin 16, ∀ a, (![h.val, 0, 0] : Fin 3 → ℕ) a + (![1, 256, D] : Fin 3 → ℕ) a ≤ (![16, 256, D] : Fin 3 → ℕ) a) :
    (n : ℕ) → n ≤ 16 → List (View.Piece (Elt F) (⟨3, ![16, 256, D]⟩ : Shape) .bf16)
  | 0, _ => []
  | n + 1, h => ⟨Rect.unit (s := ⟨3, ![16, 256, D]⟩) ![n, 0, 0] ![1, 256, D] (inb ⟨n, h⟩), f ⟨n, h⟩⟩ :: stack D f inb n (Nat.le_of_succ_le h)

/-- A stack's entry is its head's tile's. -/
theorem canon_stack (D : ℕ) (f : Fin 16 → (⟨3, ![1, 256, D]⟩ : Shape).Idx → Elt F .bf16) (inb) (h : Fin 16) (p : Fin 256) (d : Fin D) :
    ∀ (n : ℕ) (hn : n ≤ 16), h.val < n →
      View.canon (Val := Elt F) (stack D f inb n hn) (ix3 h p d) = f h (ix3 0 p d)
  | 0, _, hl => absurd hl (Nat.not_lt_zero _)
  | n + 1, hn, hl => by
    unfold stack
    by_cases e : h.val = n
    · obtain ⟨h, hh⟩ := h
      simp only at e
      subst e
      refine Eq.trans ?_ (View.canon_cons_emb (Rect.unit (s := ⟨3, ![16, 256, D]⟩) ![h, 0, 0] ![1, 256, D] (inb ⟨h, hn⟩)) (f ⟨h, hn⟩) (stack D f inb h (Nat.le_of_succ_le hn)) (ix3 0 p d))
      refine congrArg (View.canon _) ?_
      funext a
      apply Fin.ext
      match a with
      | ⟨0, _⟩ => rfl
      | ⟨1, _⟩ => show p.val = 0 + 1 * p.val; omega
      | ⟨2, _⟩ => show d.val = 0 + 1 * d.val; omega
      | ⟨_ + 3, hh⟩ => exact absurd hh (by simp)
    · rw [View.canon_cons_of_not_mem]
      · exact canon_stack D f inb h p d n _ (by omega)
      · intro hm
        obtain ⟨x, hx⟩ := LoadRect.exists_idx_of_mem _ hm
        have h0 := congrArg (fun y => (y 0).val) hx
        have h1 : (x 0).val < 1 := (x 0).isLt
        have h2 : n + 1 * (x 0).val = h.val := h0
        omega

theorem inb_stack (D : ℕ) (h : Fin 16) (a : Fin 3) : (![h.val, 0, 0] : Fin 3 → ℕ) a + (![1, 256, D] : Fin 3 → ℕ) a ≤ (![16, 256, D] : Fin 3 → ℕ) a := by
  match a with
  | ⟨0, _⟩ => exact Nat.succ_le_of_lt h.isLt
  | ⟨1, _⟩ => exact le_of_eq (Nat.zero_add _)
  | ⟨2, _⟩ => exact le_of_eq (Nat.zero_add _)
  | ⟨_ + 3, hh⟩ => exact absurd hh (by simp)

variable (x0 : Vec F S256x2048 .f32) (x1 : Vec F S256x64 .f32) (x2 : Vec F S256x64 .f32) (x3 : Vec F S2048x1536 .bf16) (x4 : Vec F S1x1536 .f32)
  (x5 : Vec F S1536x3072 .bf16) (x6 : Vec F S2048x576 .bf16) (x7 : Vec F S1x512 .f32) (x8 : Vec F S512x4096 .bf16)

theorem out0_9_stack : out0_9 x0 x1 x2 x3 x4 x5 x6 x7 x8
    = View.canon (stack 192 (qTile (cosV x0 x1 x2 x3 x4 x5 x6 x7 x8) (sinV x0 x1 x2 x3 x4 x5 x6 x7 x8) (qV x0 x1 x2 x3 x4 x5 x6 x7 x8)) (inb_stack 192) 16 le_rfl) := by
  sl_kernel_rfl
theorem out0_10_stack : out0_10 x0 x1 x2 x3 x4 x5 x6 x7 x8
    = View.canon (stack 192 (kTile (kvbV x0 x1 x2 x3 x4 x5 x6 x7 x8) (kpeV x0 x1 x2 x3 x4 x5 x6 x7 x8)) (inb_stack 192) 16 le_rfl) := by
  sl_kernel_rfl
theorem out0_11_stack : out0_11 x0 x1 x2 x3 x4 x5 x6 x7 x8
    = View.canon (stack 129 (vTile (kvbV x0 x1 x2 x3 x4 x5 x6 x7 x8) (oneV x0 x1 x2 x3 x4 x5 x6 x7 x8)) (inb_stack 129) 16 le_rfl) := by
  sl_kernel_rfl

end Cert.KernelIdeal.Proj

end
-- ==== Proof.IdealProjValue.lean ====
module

public import proofs.«01_k».proof.Proof.IdealProjTiles
public import proofs.«01_k».proof.Proof.Spec
public import Idealize.ShloMosaic.Lib.Pointwise

/-! The projection call's outputs at an index, on extended reals: the entries of the plain description. -/

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- Row `p` of a table. -/
abbrev row {a b : ℕ} (x : (⟨2, ![a, b]⟩ : Shape).Idx → EReal) (p : Fin a) : Fin b → EReal := fun d => x (ix2 p d)
/-- A table with its axes exchanged. -/
abbrev col {a b : ℕ} (x : (⟨2, ![a, b]⟩ : Shape).Idx → EReal) (j : Fin b) : Fin a → EReal := fun i => x (ix2 i j)

/-- The rotary embedding of a table is the rows'. -/
theorem ropeT_at (c s u : FVec Ideal S256x64 .f32) (p : Fin 256) (d : Fin 64) :
    ropeT c s u (ix2 p d) = Spec.rope (row c p) (row s p) (row u p) d := by
  unfold ropeT Spec.rope
  pointwise
  by_cases h : d.val < 32
  · rw [dif_pos h, dif_pos h]
    have e : (⟨32 + d.val, by omega⟩ : Fin 64) = ⟨d.val + 32, by omega⟩ := Fin.ext (by simp only; omega)
    rw [e]
  · rw [dif_neg h, dif_neg h]
    have e : (⟨32 + (d.val - 32), by omega⟩ : Fin 64) = d := Fin.ext (by simp only; omega)
    rw [e]

/-- The queries of all heads. -/
theorem pay7_at (x0 : Vec Ideal S256x2048 .f32) (x3 : Vec Ideal S2048x1536 .bf16) (x4 : Vec Ideal S1x1536 .f32) (x5 : Vec Ideal S1536x3072 .bf16) (p : Fin 256) (n : Fin 3072) :
    k0_pay7 x0 x3 x4 x5 (ix2 p n) = Spec.qrow (row x0 p) (col x3) (row x4 0) (col x5) n := by
  unfold Spec.qrow Spec.lin Spec.nrm Spec.inv
  pointwise [k0_pay7, k0_pay4]

/-- The second projection. -/
theorem pay8_at (x0 : Vec Ideal S256x2048 .f32) (x6 : Vec Ideal S2048x576 .bf16) (p : Fin 256) (n : Fin 576) :
    k0_pay8 x0 x6 (ix2 p n) = Spec.lin (row x0 p) (col x6) n := by
  unfold Spec.lin
  pointwise [k0_pay8, k0_pay4]

/-- The keys and values of all heads. -/
theorem kvb_at (x0 : Vec Ideal S256x2048 .f32) (x6 : Vec Ideal S2048x576 .bf16) (x7 : Vec Ideal S1x512 .f32) (x8 : Vec Ideal S512x4096 .bf16) (p : Fin 256) (n : Fin 4096) :
    k0_pay11 (k0_pay9 x0 x6) (k0_pay10 x0 x6) x7 x8 (ix2 p n) = Spec.kvrow (row x0 p) (col x6) (row x7 0) (col x8) n := by
  unfold Spec.kvrow Spec.lin Spec.nrm Spec.inv Spec.lat
  pointwise [k0_pay11, k0_pay9, k0_pay10]
  simp only [pay8_at]

theorem pay12_eq {F : FTy → Type} [FloatOps F] (c s : FVec F S256x64 .f32) (u : FVec F S256x576 .f32) :
    k0_pay12 c s u = ropeT c s (extractStridedSlice S256x64 ![0, 512] u slices_S256x576_o0_512_S256x64) := by
  sl_kernel_rfl

/-- The shared key entries, embedded. -/
theorem kpe_at (c s : FVec Ideal S256x64 .f32) (x0 : Vec Ideal S256x2048 .f32) (x6 : Vec Ideal S2048x576 .bf16) (p : Fin 256) (d : Fin 64) :
    k0_pay12 c s (k0_pay8 x0 x6) (ix2 p d) = Spec.kpe (row x0 p) (row c p) (row s p) (col x6) d := by
  rw [pay12_eq, ropeT_at]
  unfold Spec.kpe
  congr 1
  funext e
  show extractStridedSlice S256x64 ![0, 512] (k0_pay8 x0 x6) slices_S256x576_o0_512_S256x64 (ix2 p e) = _
  pointwise
  rw [pay8_at]
  exact congrArg _ (Fin.ext (Nat.add_comm _ _))

theorem qCols_at (q : FVec Ideal S256x3072 .f32) (h : Fin 16) (p : Fin 256) (d : Fin 192) :
    qCols q h (ix2 p d) = row q p ⟨192 * h.val + d.val, by omega⟩ * Spec.scl := by
  unfold qCols
  pointwise

/-- Head `h`'s stored queries. -/
theorem qTile_at (c s : FVec Ideal S256x64 .f32) (q : FVec Ideal S256x3072 .f32) (h : Fin 16) (p : Fin 256) (d : Fin 192) :
    qTile c s q h (ix3 0 p d) = Spec.qent Spec.scl (row q p) (row c p) (row s p) h d := by
  have e : row (extractStridedSlice S256x64 ![0, 128] (qCols q h) slices_S256x192_o0_128_S256x64) p
      = fun e => row q p ⟨192 * h.val + 128 + e.val, by omega⟩ * Spec.scl := by
    funext e
    show extractStridedSlice S256x64 ![0, 128] (qCols q h) slices_S256x192_o0_128_S256x64 (ix2 p e) = _
    pointwise
    rw [qCols_at]
    congr 2
    exact Fin.ext (Nat.add_assoc _ _ _).symm
  unfold qTile Spec.qent
  pointwise
  by_cases l : d.val < 128
  · rw [dif_pos l, dif_pos l, qCols_at]
    rfl
  · rw [dif_neg l, dif_neg l, ropeT_at, e]
    rfl

/-- Head `h`'s stored keys. -/
theorem kTile_at (kv : FVec Ideal S256x4096 .f32) (pe : FVec Ideal S256x64 .f32) (h : Fin 16) (p : Fin 256) (d : Fin 192) :
    kTile kv pe h (ix3 0 p d) = Spec.kent (row kv p) (row pe p) h d := by
  unfold kTile Spec.kent
  pointwise

/-- Head `h`'s stored values. -/
theorem vTile_at (kv : FVec Ideal S256x4096 .f32) (h : Fin 16) (p : Fin 256) (d : Fin 129) :
    vTile kv k0_pay13 h (ix3 0 p d) = Spec.vent (row kv p) h d := by
  unfold vTile Spec.vent
  pointwise [k0_pay13]

theorem ld_all {a b : ℕ} {e : EltTy} (x : (⟨2, ![a, b]⟩ : Shape).Idx → Elt Ideal e) (inb) :
    View.ld x (Rect.unit (s := ⟨2, ![a, b]⟩) ![0, 0] ![a, b] inb) = x := by
  funext y
  refine congrArg x (funext fun i => Fin.ext ?_)
  match i with
  | ⟨0, _⟩ => show 0 + 1 * (y 0).val = (y 0).val; omega
  | ⟨1, _⟩ => show 0 + 1 * (y 1).val = (y 1).val; omega
  | ⟨_ + 2, hh⟩ => exact absurd hh (by simp)

variable (x0 : Vec Ideal S256x2048 .f32) (x1 : Vec Ideal S256x64 .f32) (x2 : Vec Ideal S256x64 .f32) (x3 : Vec Ideal S2048x1536 .bf16) (x4 : Vec Ideal S1x1536 .f32)
  (x5 : Vec Ideal S1536x3072 .bf16) (x6 : Vec Ideal S2048x576 .bf16) (x7 : Vec Ideal S1x512 .f32) (x8 : Vec Ideal S512x4096 .bf16)

theorem cosV_eq : cosV x0 x1 x2 x3 x4 x5 x6 x7 x8 = x1 := by
  unfold cosV; rw [ld_all]; funext y; unfold k0_pay5; pointwise
theorem sinV_eq : sinV x0 x1 x2 x3 x4 x5 x6 x7 x8 = x2 := by
  unfold sinV; rw [ld_all]; funext y; unfold k0_pay6; pointwise

/-- The query buffer after the body, at an index. -/
theorem out0_9_at (h : Fin 16) (p : Fin 256) (d : Fin 192) : out0_9 x0 x1 x2 x3 x4 x5 x6 x7 x8 (ix3 h p d)
    = Spec.qent Spec.scl (Spec.qrow (row x0 p) (col x3) (row x4 0) (col x5)) (row x1 p) (row x2 p) h d := by
  rw [out0_9_stack, canon_stack _ _ _ _ _ _ _ _ h.isLt, qTile_at, cosV_eq, sinV_eq]
  congr 1
  funext n
  unfold qV
  rw [ld_all, ld_all, ld_all, ld_all]
  exact pay7_at x0 x3 x4 x5 p n

theorem kvbV_row (p : Fin 256) : row (kvbV x0 x1 x2 x3 x4 x5 x6 x7 x8) p = Spec.kvrow (row x0 p) (col x6) (row x7 0) (col x8) := by
  funext n
  unfold kvbV
  rw [ld_all, ld_all, ld_all, ld_all]
  exact kvb_at x0 x6 x7 x8 p n

/-- The key buffer after the body, at an index. -/
theorem out0_10_at (h : Fin 16) (p : Fin 256) (d : Fin 192) : out0_10 x0 x1 x2 x3 x4 x5 x6 x7 x8 (ix3 h p d)
    = Spec.kent (Spec.kvrow (row x0 p) (col x6) (row x7 0) (col x8)) (Spec.kpe (row x0 p) (row x1 p) (row x2 p) (col x6)) h d := by
  rw [out0_10_stack, canon_stack _ _ _ _ _ _ _ _ h.isLt, kTile_at, kvbV_row]
  congr 1
  funext n
  unfold kpeV
  rw [ld_all, ld_all, cosV_eq, sinV_eq]
  exact kpe_at x1 x2 x0 x6 p n

/-- The value buffer after the body, at an index. -/
theorem out0_11_at (h : Fin 16) (p : Fin 256) (d : Fin 129) : out0_11 x0 x1 x2 x3 x4 x5 x6 x7 x8 (ix3 h p d)
    = Spec.vent (Spec.kvrow (row x0 p) (col x6) (row x7 0) (col x8)) h d := by
  rw [out0_11_stack, canon_stack _ _ _ _ _ _ _ _ h.isLt]
  unfold oneV
  rw [vTile_at, kvbV_row]

end Cert.KernelIdeal.Proj

end
-- ==== Proof.IdealProjArr.lean ====
module

public import proofs.«01_k».proof.Proof.IdealProjValue
public import proofs.«01_k».proof.Proof.Spec
public import Idealize.ShloMosaic.Lib.Pipeline.ValueKit

/-! The three arrays the projection call leaves, on extended reals: their entries from the arrays it finds. -/

@[expose] public section

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (W : (c : Dev nD) → (b : Ref sig .tc) → Buf (Elt Ideal) ((c : Thread nD τ).loc b)) (c : Dev nD)

theorem index_row : ∀ t : Fin cfg0.N, win0_0.index t = ![t.val, 0] ∧ win0_1.index t = ![t.val, 0] ∧ win0_2.index t = ![t.val, 0] :=
  (by decide +kernel : ∀ t : Fin grid0.N, _)
theorem index_whole : ∀ t : Fin cfg0.N, win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)
theorem index_out : ∀ t : Fin cfg0.N, win0_9.index t = ![0, t.val, 0] ∧ win0_10.index t = ![0, t.val, 0] ∧ win0_11.index t = ![0, t.val, 0] :=
  (by decide +kernel : ∀ t : Fin grid0.N, _)

/-- Row `p` of block `t`, as a row of the whole. -/
abbrev rowAt (t : Fin cfg0.N) (p : Fin 256) : Fin 2048 := ⟨256 * t.val + p.val, by have : t.val < 8 := t.isLt; omega⟩

theorem blk0 (t : Fin cfg0.N) (p : Fin 256) : row (a := 256) (b := 2048) (iblk W c 0 t) p = row (a := 2048) (b := 2048) (W c main_v0) (rowAt t p) := by
  funext k
  show iblk W c 0 t (ix2 p k) = _
  obtain ⟨e0, e1, e2⟩ := index_row t
  blk_simp [iblk, e0]
  refine congrArg (W c main_v0) ?_
  blk_ext [e0]
theorem blk1 (t : Fin cfg0.N) (p : Fin 256) : row (a := 256) (b := 64) (iblk W c 1 t) p = row (a := 2048) (b := 64) (W c main_v1) (rowAt t p) := by
  funext k
  show iblk W c 1 t (ix2 p k) = _
  obtain ⟨e0, e1, e2⟩ := index_row t
  blk_simp [iblk, e1]
  refine congrArg (W c main_v1) ?_
  blk_ext [e1]
theorem blk2 (t : Fin cfg0.N) (p : Fin 256) : row (a := 256) (b := 64) (iblk W c 2 t) p = row (a := 2048) (b := 64) (W c main_v2) (rowAt t p) := by
  funext k
  show iblk W c 2 t (ix2 p k) = _
  obtain ⟨e0, e1, e2⟩ := index_row t
  blk_simp [iblk, e2]
  refine congrArg (W c main_v2) ?_
  blk_ext [e2]
theorem blk3 (t : Fin cfg0.N) : iblk W c 3 t = W c main_v4 := by
  funext y
  obtain ⟨e3, e4, e5, e6, e7, e8⟩ := index_whole t
  blk_simp [iblk, e3]
  refine congrArg (W c main_v4) ?_
  blk_ext [e3]
theorem blk4 (t : Fin cfg0.N) : iblk W c 4 t = W c main_v13 := by
  funext y
  obtain ⟨e3, e4, e5, e6, e7, e8⟩ := index_whole t
  blk_simp [iblk, e4]
  refine congrArg (W c main_v13) ?_
  blk_ext [e4]
theorem blk5 (t : Fin cfg0.N) : iblk W c 5 t = W c main_v6 := by
  funext y
  obtain ⟨e3, e4, e5, e6, e7, e8⟩ := index_whole t
  blk_simp [iblk, e5]
  refine congrArg (W c main_v6) ?_
  blk_ext [e5]
theorem blk6 (t : Fin cfg0.N) : iblk W c 6 t = W c main_v8 := by
  funext y
  obtain ⟨e3, e4, e5, e6, e7, e8⟩ := index_whole t
  blk_simp [iblk, e6]
  refine congrArg (W c main_v8) ?_
  blk_ext [e6]
theorem blk7 (t : Fin cfg0.N) : iblk W c 7 t = W c main_v14 := by
  funext y
  obtain ⟨e3, e4, e5, e6, e7, e8⟩ := index_whole t
  blk_simp [iblk, e7]
  refine congrArg (W c main_v14) ?_
  blk_ext [e7]
theorem blk8 (t : Fin cfg0.N) : iblk W c 8 t = W c main_v10 := by
  funext y
  obtain ⟨e3, e4, e5, e6, e7, e8⟩ := index_whole t
  blk_simp [iblk, e8]
  refine congrArg (W c main_v10) ?_
  blk_ext [e8]

/-- The row of keys and values at place `r` of the sequence. -/
abbrev kvAt (r : Fin 2048) : Fin 4096 → EReal :=
  Spec.kvrow (row (a := 2048) (b := 2048) (W c main_v0) r) (col (a := 2048) (b := 576) (W c main_v8)) (row (a := 1) (b := 512) (W c main_v14) 0) (col (a := 512) (b := 4096) (W c main_v10))
/-- The shared key entries at place `r`. -/
abbrev peAt (r : Fin 2048) : Fin 64 → EReal :=
  Spec.kpe (row (a := 2048) (b := 2048) (W c main_v0) r) (row (a := 2048) (b := 64) (W c main_v1) r) (row (a := 2048) (b := 64) (W c main_v2) r) (col (a := 2048) (b := 576) (W c main_v8))
/-- The row of queries at place `r`. -/
abbrev qAt (r : Fin 2048) : Fin 3072 → EReal :=
  Spec.qrow (row (a := 2048) (b := 2048) (W c main_v0) r) (col (a := 2048) (b := 1536) (W c main_v4)) (row (a := 1) (b := 1536) (W c main_v13) 0) (col (a := 1536) (b := 3072) (W c main_v6))

/-- The queries' array after the call. -/
theorem arr9 : (dat W c).arrAt 9 cfg0.N = fun y : S16x2048x192.Idx => Spec.qent Spec.scl (qAt W c (y 1)) (row (a := 2048) (b := 64) (W c main_v1) (y 1)) (row (a := 2048) (b := 64) (W c main_v2) (y 1)) (y 0) (y 2) := by
  refine (dat W c).arrAt_eq_of_covers 9 _ (by decide +kernel) fun t hf y => ?_
  blk_simp
  rw [after0_9]
  obtain ⟨e9, e10, e11⟩ := index_out t
  obtain ⟨h, p, d, rfl⟩ : ∃ (h : Fin 16) (p : Fin 256) (d : Fin 192), y = ix3 h p d := ⟨y 0, y 1, y 2, eq_ix3 y⟩
  have k0 : (win0_9.blk t).view.emb (ix3 h p d) 0 = h := Fin.ext (by blk_simp [e9])
  have k1 : (win0_9.blk t).view.emb (ix3 h p d) 1 = rowAt t p := Fin.ext (by blk_simp [e9]; simp; omega)
  have k2 : (win0_9.blk t).view.emb (ix3 h p d) 2 = d := Fin.ext (by blk_simp [e9])
  rw [k0, k1, k2]
  refine (out0_9_at _ _ _ _ _ _ _ _ _ h p d).trans ?_
  rw [blk0, blk1, blk2, blk3, blk4, blk5]

/-- The keys' array after the call. -/
theorem arr10 : (dat W c).arrAt 10 cfg0.N = fun y : S16x2048x192.Idx => Spec.kent (kvAt W c (y 1)) (peAt W c (y 1)) (y 0) (y 2) := by
  refine (dat W c).arrAt_eq_of_covers 10 _ (by decide +kernel) fun t hf y => ?_
  blk_simp
  rw [after0_10]
  obtain ⟨e9, e10, e11⟩ := index_out t
  obtain ⟨h, p, d, rfl⟩ : ∃ (h : Fin 16) (p : Fin 256) (d : Fin 192), y = ix3 h p d := ⟨y 0, y 1, y 2, eq_ix3 y⟩
  have k0 : (win0_10.blk t).view.emb (ix3 h p d) 0 = h := Fin.ext (by blk_simp [e10])
  have k1 : (win0_10.blk t).view.emb (ix3 h p d) 1 = rowAt t p := Fin.ext (by blk_simp [e10]; simp; omega)
  have k2 : (win0_10.blk t).view.emb (ix3 h p d) 2 = d := Fin.ext (by blk_simp [e10])
  rw [k0, k1, k2]
  refine (out0_10_at _ _ _ _ _ _ _ _ _ h p d).trans ?_
  rw [blk0, blk1, blk2, blk6, blk7, blk8]

/-- The values' array after the call. -/
theorem arr11 : (dat W c).arrAt 11 cfg0.N = fun y : S16x2048x129.Idx => Spec.vent (kvAt W c (y 1)) (y 0) (y 2) := by
  refine (dat W c).arrAt_eq_of_covers 11 _ (by decide +kernel) fun t hf y => ?_
  blk_simp
  rw [after0_11]
  obtain ⟨e9, e10, e11⟩ := index_out t
  obtain ⟨h, p, d, rfl⟩ : ∃ (h : Fin 16) (p : Fin 256) (d : Fin 129), y = ix3 h p d := ⟨y 0, y 1, y 2, eq_ix3 y⟩
  have k0 : (win0_11.blk t).view.emb (ix3 h p d) 0 = h := Fin.ext (by blk_simp [e11])
  have k1 : (win0_11.blk t).view.emb (ix3 h p d) 1 = rowAt t p := Fin.ext (by blk_simp [e11]; simp; omega)
  have k2 : (win0_11.blk t).view.emb (ix3 h p d) 2 = d := Fin.ext (by blk_simp [e11])
  rw [k0, k1, k2]
  refine (out0_11_at _ _ _ _ _ _ _ _ _ h p d).trans ?_
  rw [blk0, blk6, blk7, blk8]

end Cert.KernelIdeal.Proj

end
-- ==== Proof.IdealAttnValue.lean ====
module

public import proofs.«01_k».proof.Proof.IdealAttn
public import proofs.«01_k».proof.Proof.Spec
public import Idealize.ShloMosaic.Lib.Pointwise
public import Idealize.ShloMosaic.Lib.WordCmp

/-! The attention call's step and its output block at an index, on extended reals. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A head's step at an index: the weights times the values, added. -/
theorem pay19_at (m : IVec S256x256 1) (x y : Vec Ideal S1x256x192 .bf16) (a : Vec Ideal S1x256x129 .f32) (z : Vec Ideal S1x256x129 .bf16) (p : Fin 256) (e : Fin 129) :
    k1_pay19 m x y a z (ix3 0 p e)
      = a (ix3 0 p e) + ∑ s : Fin 256, Ideal.exp (if m (ix2 p s) = 1#1 then ∑ d : Fin 192, x (ix3 0 p d) * y (ix3 0 s d) else ⊥) * z (ix3 0 s e) := by
  pointwise [k1_pay19]
  rfl

/-- Which keys of a block a row attends to. -/
theorem pay16_at (i j : BitVec 32) (p s : Fin 256) :
    k1_pay16 (F := Ideal) i j (ix2 p s) = if j.slt i = true ∨ s.val ≤ p.val then 1#1 else 0#1 := by
  pointwise [k1_pay16]
  rw [WordCmp.cmpi_sge_ofNat (by omega) (by omega)]
  unfold Scalar.cmpi IntOp.cmpi IntOp.ori
  by_cases l : s.val ≤ p.val <;> cases e : BitVec.slt j i <;> simp [l]

theorem pay4_at (a : Vec Ideal S1x256x129 .f32) (p : Fin 256) (d : Fin 128) :
    k1_pay4 a (ix2 p d) = Ideal.div (a (ix3 0 p ⟨d.val, by omega⟩)) (a (ix3 0 p ⟨128, by omega⟩)) := by
  pointwise [k1_pay4]

theorem pay3_at (a : FVec Ideal S256x2048 .bf16) (w : Vec Ideal S2048x2048 .bf16) (p : Fin 256) (n : Fin 2048) :
    k1_pay3 a w (ix2 p n) = ∑ x : Fin 2048, a (ix2 p x) * w (ix2 x n) := by
  pointwise [k1_pay3]

theorem pay17_at (y : S16x256x129.Idx) : k1_pay17 (F := Ideal) y = 0 := by
  pointwise [k1_pay17]

/-! ## The step at an index -/

theorem small_slt : ∀ i j : Fin 8, (BitVec.ofNat 32 j.val).slt (BitVec.ofNat 32 i.val) = decide (j.val < i.val) := by decide
theorem small_off : ∀ j : Fin 8, (Scalar.indexCast (Scalar.muli (BitVec.ofNat 32 j.val) 256#32)).toNat = 256 * j.val := by decide

/-- Row `p` of block `t`, as a row of the whole. -/
abbrev rowAt (t : Fin 8) (p : Fin 256) : Fin 2048 := ⟨256 * t.val + p.val, by omega⟩

/-- What one block of keys adds to the accumulator of query block `i`. -/
def blockSum (q : S16x2048x192.Idx → EReal) (k : S16x2048x192.Idx → EReal) (v : S16x2048x129.Idx → EReal) (i b : Fin 8) (h : Fin 16) (p : Fin 256) (e : Fin 129) : EReal :=
  ∑ s : Fin 256, Ideal.exp (if b.val < i.val ∨ s.val ≤ p.val then ∑ d : Fin 192, q (ix3 h (rowAt i p) d) * k (ix3 h (rowAt b s) d) else ⊥) * v (ix3 h (rowAt b s) e)

theorem ld_q (q : S16x256x192.Idx → EReal) (h : Fin 16) (p : Fin 256) (d : Fin 192) : View.ld (Val := Elt Ideal) (e' := .bf16) q (qRect h) (ix3 0 p d) = q (ix3 h p d) := by
  refine congrArg q (funext fun a => Fin.ext ?_)
  match a with
  | ⟨0, _⟩ => rfl
  | ⟨1, _⟩ => show 0 + 1 * p.val = p.val; omega
  | ⟨2, _⟩ => show 0 + 1 * d.val = d.val; omega
  | ⟨_ + 3, hh⟩ => exact absurd hh (by simp)
theorem ld_a (a : S16x256x129.Idx → EReal) (h : Fin 16) (p : Fin 256) (d : Fin 129) : View.ld (Val := Elt Ideal) (e' := .f32) a (aRect h) (ix3 0 p d) = a (ix3 h p d) := by
  refine congrArg a (funext fun a => Fin.ext ?_)
  match a with
  | ⟨0, _⟩ => rfl
  | ⟨1, _⟩ => show 0 + 1 * p.val = p.val; omega
  | ⟨2, _⟩ => show 0 + 1 * d.val = d.val; omega
  | ⟨_ + 3, hh⟩ => exact absurd hh (by simp)
theorem ld_k (k : S16x2048x192.Idx → EReal) (j : Fin 8) (hw) (h : Fin 16) (p : Fin 256) (d : Fin 192) :
    View.ld (Val := Elt Ideal) (e' := .bf16) k (kRect (BitVec.ofNat 32 j.val) hw h) (ix3 0 p d) = k (ix3 h (rowAt j p) d) := by
  refine congrArg k (funext fun a => Fin.ext ?_)
  match a with
  | ⟨0, _⟩ => rfl
  | ⟨1, _⟩ =>
    show (Scalar.indexCast (Scalar.muli (BitVec.ofNat 32 j.val) 256#32)).toNat + 1 * p.val = 256 * j.val + p.val
    rw [small_off]; omega
  | ⟨2, _⟩ => show 0 + 1 * d.val = d.val; omega
  | ⟨_ + 3, hh⟩ => exact absurd hh (by simp)
theorem ld_v (v : S16x2048x129.Idx → EReal) (j : Fin 8) (hw) (h : Fin 16) (p : Fin 256) (d : Fin 129) :
    View.ld (Val := Elt Ideal) (e' := .bf16) v (vRect (BitVec.ofNat 32 j.val) hw h) (ix3 0 p d) = v (ix3 h (rowAt j p) d) := by
  refine congrArg v (funext fun a => Fin.ext ?_)
  match a with
  | ⟨0, _⟩ => rfl
  | ⟨1, _⟩ =>
    show (Scalar.indexCast (Scalar.muli (BitVec.ofNat 32 j.val) 256#32)).toNat + 1 * p.val = 256 * j.val + p.val
    rw [small_off]; omega
  | ⟨2, _⟩ => show 0 + 1 * d.val = d.val; omega
  | ⟨_ + 3, hh⟩ => exact absurd hh (by simp)

theorem tl_ix (h : Fin 16) (p : Fin 256) (e : Fin 129) : tl (ix3 h p e) = ix3 0 p e := by
  funext a
  match a with
  | ⟨0, _⟩ => rfl
  | ⟨1, _⟩ => rfl
  | ⟨2, _⟩ => rfl
  | ⟨_ + 3, hh⟩ => exact absurd hh (by simp)

/-- The accumulator after a step, at an index: one block's sum added. -/
theorem accStep_at (iw jw : BitVec 32) (hw) (i j : Fin 8) (hi : iw = BitVec.ofNat 32 i.val) (hj : jw = BitVec.ofNat 32 j.val)
    (q : S16x256x192.Idx → EReal) (Q k : S16x2048x192.Idx → EReal) (v : S16x2048x129.Idx → EReal) (a : S16x256x129.Idx → EReal)
    (hq : ∀ h p d, q (ix3 h p d) = Q (ix3 h (rowAt i p) d)) (h : Fin 16) (p : Fin 256) (e : Fin 129) :
    accStep (F := Ideal) iw jw hw q k v a (ix3 h p e) = a (ix3 h p e) + blockSum Q k v i j h p e := by
  subst hi hj
  unfold accStep headOut
  rw [tl_ix]
  refine (pay19_at _ _ _ _ _ p e).trans ?_
  refine congrArg₂ (· + ·) (ld_a a h p e) (Finset.sum_congr rfl fun s _ => congrArg₂ (· * ·) (congrArg Ideal.exp ?_) (ld_v v j hw h s e))
  have hS : (∑ d : Fin 192, View.ld (Val := Elt Ideal) (e' := .bf16) q (qRect h) (ix3 0 p d) * View.ld (Val := Elt Ideal) (e' := .bf16) k (kRect (BitVec.ofNat 32 j.val) hw h) (ix3 0 s d) : EReal)
      = ∑ d : Fin 192, Q (ix3 h (rowAt i p) d) * k (ix3 h (rowAt j s) d) :=
    Finset.sum_congr rfl fun d _ => congrArg₂ (· * ·) ((ld_q q h p d).trans (hq h p d)) (ld_k k j hw h s d)
  rw [pay16_at, small_slt]
  by_cases l : j.val < i.val ∨ s.val ≤ p.val
  · rw [if_pos (if_pos (l.imp_left decide_eq_true)), if_pos l]
    exact hS
  · rw [if_neg (fun g => absurd ((if_neg (fun g' => l (g'.imp_left of_decide_eq_true))).symm.trans g) (by decide)), if_neg l]

/-! ## The output block -/

theorem quot_cat {F : FTy → Type} [FloatOps F] [Named F] (s : Fin 16 → Tile F) :
    k1_pay2 (k1_pay4 (s 0)) (k1_pay5 (s 1)) (k1_pay6 (s 2)) (k1_pay7 (s 3)) (k1_pay8 (s 4)) (k1_pay9 (s 5)) (k1_pay10 (s 6)) (k1_pay11 (s 7))
      (k1_pay12 (s 8)) (k1_pay13 (s 9)) (k1_pay14 (s 10)) (k1_pay15 (s 11)) (s 12) (s 13) (s 14) (s 15)
      = concatenate S256x2048 1 (List.ofFn fun n : Fin 16 => (⟨S256x128, k1_pay4 (s n)⟩ : (t : Shape) × (t.Idx → Elt F .bf16)))
          concatenates_S256x128_S256x128_S256x128_S256x128_S256x128_S256x128_S256x128_S256x128_S256x128_S256x128_S256x128_S256x128_S256x128_S256x128_S256x128_S256x128_S256x2048_d1 := by
  sl_kernel_rfl

/-- The output block at an index: each head's quotients, times the last projection's weights. -/
theorem outBlk_at (a : S16x256x129.Idx → EReal) (w : S2048x2048.Idx → EReal) (p : Fin 256) (n : Fin 2048) :
    outBlk (F := Ideal) a w (ix2 p n) = ∑ x : Fin 2048,
      Ideal.div (a (ix3 ⟨x.val / 128, by omega⟩ p ⟨x.val % 128, by omega⟩)) (a (ix3 ⟨x.val / 128, by omega⟩ p ⟨128, by omega⟩)) * w (ix2 x n) := by
  unfold outBlk outHeads
  rw [pay3_at]
  refine Finset.sum_congr rfl fun x _ => ?_
  congr 1
  · refine (congrFun (quot_cat (F := Ideal) fun h => View.ld (Val := Elt Ideal) (e' := .f32) a (aRect h)) (ix2 p x)).trans ?_
    refine (concatenate_ofFn_apply (t := S256x2048) (s₁ := S256x128) 1 (fun n : Fin 16 => k1_pay4 (View.ld (Val := Elt Ideal) (e' := .f32) a (aRect n))) _ rfl 128 rfl (ix2 p x) ⟨x.val / 128, by omega⟩ rfl
      (ix2 p ⟨x.val % 128, by omega⟩) rfl ?_).trans ?_
    · intro b hb
      match b with
      | ⟨0, _⟩ => rfl
      | ⟨1, _⟩ => exact absurd rfl hb
      | ⟨_ + 2, hh⟩ => exact absurd hh (by simp)
    · exact (pay4_at _ p _).trans (congrArg₂ Ideal.div (ld_a a _ p _) (ld_a a _ p _))
  · refine congrArg w (funext fun i => Fin.ext ?_)
    match i with
    | ⟨0, _⟩ => show 0 + 1 * x.val = x.val; omega
    | ⟨1, _⟩ => show 0 + 1 * n.val = n.val; omega
    | ⟨_ + 2, hh⟩ => exact absurd hh (by simp)

end Cert.KernelIdeal.Attn

end
-- ==== Proof.IdealAttnArr.lean ====
module

public import proofs.«01_k».proof.Proof.IdealAttnValue
public import Idealize.ShloMosaic.Lib.Pipeline.ValueKit

/-! The array the attention call leaves, on extended reals: its entries from the arrays it finds. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Schedule

variable {F : FTy → Type} [FloatOps F] [Named F]

/-- The query block and the key block of a point. -/
def qi (t : Fin (cfgA (F := F)).N) : Fin 8 := ⟨(iw t).toNat % 8, Nat.mod_lt _ (by decide)⟩
def ki (t : Fin (cfgA (F := F)).N) : Fin 8 := ⟨(jw t).toNat % 8, Nat.mod_lt _ (by decide)⟩

theorem sched_word : ∀ t : Fin (cfgA (F := F)).N, iw t = BitVec.ofNat 32 (qi t).val ∧ jw t = BitVec.ofNat 32 (ki t).val :=
  of_decide_eq_true (by sl_kernel_rfl)
theorem sched_zero : ∀ t : Fin (cfgA (F := F)).N, isZero (jw t) → (ki t).val = 0 := of_decide_eq_true (by sl_kernel_rfl)
theorem sched_next : ∀ t t' : Fin (cfgA (F := F)).N, t'.val + 1 = t.val → ¬isZero (jw t) → qi t' = qi t ∧ (ki t).val = (ki t').val + 1 :=
  of_decide_eq_true (by sl_kernel_rfl)
theorem sched_last : ∀ t : Fin (cfgA (F := F)).N, k1_cond2 (iw t) (jw t) = 1#1 → ki t = qi t := of_decide_eq_true (by sl_kernel_rfl)
theorem index_0 : ∀ t : Fin (cfgA (F := F)).N, ((cfgA (F := F)).win (0 : Fin 5)).index t = ![0, (qi t).val, 0] :=
  of_decide_eq_true (by sl_kernel_rfl)
theorem index_1 : ∀ t : Fin (cfgA (F := F)).N, ((cfgA (F := F)).win (1 : Fin 5)).index t = ![0, 0, 0] :=
  of_decide_eq_true (by sl_kernel_rfl)
theorem index_2 : ∀ t : Fin (cfgA (F := F)).N, ((cfgA (F := F)).win (2 : Fin 5)).index t = ![0, 0, 0] :=
  of_decide_eq_true (by sl_kernel_rfl)
theorem index_3 : ∀ t : Fin (cfgA (F := F)).N, ((cfgA (F := F)).win (3 : Fin 5)).index t = ![0, 0] :=
  of_decide_eq_true (by sl_kernel_rfl)
theorem index_4 : ∀ t : Fin (cfgA (F := F)).N, ((cfgA (F := F)).win (4 : Fin 5)).index t = ![(qi t).val, 0] :=
  of_decide_eq_true (by sl_kernel_rfl)

end Schedule

variable (W : (c : Dev nD) → (b : Ref sig .tc) → Buf (Elt Ideal) ((c : Thread nD τ).loc b)) (c : Dev nD)

theorem blk0 (t : Fin (cfgA (F := Ideal)).N) (h : Fin 16) (p : Fin 256) (d : Fin 192) :
    (iblk W c (0 : Fin 5) t : S16x256x192.Idx → EReal) (ix3 h p d) = (W c main_v15_0 : S16x2048x192.Idx → EReal) (ix3 h (rowAt (qi t) p) d) := by
  have e := index_0 (F := Ideal) t
  blk_simp [iblk, e]
  refine congrArg (W c main_v15_0) ?_
  blk_ext [e]
theorem blk1 (t : Fin (cfgA (F := Ideal)).N) : iblk W c (1 : Fin 5) t = W c main_v15_1 := by
  funext y
  have e := index_1 (F := Ideal) t
  blk_simp [iblk, e]
  refine congrArg (W c main_v15_1) ?_
  blk_ext [e]
theorem blk2 (t : Fin (cfgA (F := Ideal)).N) : iblk W c (2 : Fin 5) t = W c main_v15_2 := by
  funext y
  have e := index_2 (F := Ideal) t
  blk_simp [iblk, e]
  refine congrArg (W c main_v15_2) ?_
  blk_ext [e]
theorem blk3 (t : Fin (cfgA (F := Ideal)).N) : iblk W c (3 : Fin 5) t = W c main_v12 := by
  funext y
  have e := index_3 (F := Ideal) t
  blk_simp [iblk, e]
  refine congrArg (W c main_v12) ?_
  blk_ext [e]

/-- The accumulator after a point: the sums of the row's key blocks so far. -/
theorem acc_at (n : ℕ) : ∀ hn : n < (cfgA (F := Ideal)).N, ∀ h p e, acc W c n hn (ix3 h p e)
    = ∑ b : Fin 8, if b.val ≤ (ki (F := Ideal) ⟨n, hn⟩).val then blockSum (W c main_v15_0) (W c main_v15_1) (W c main_v15_2) (qi (F := Ideal) ⟨n, hn⟩) b h p e else 0 := by
  induction n with
  | zero =>
    intro hn h p e
    have q := zero_first (F := Ideal) ⟨0, hn⟩ rfl
    have z := sched_zero (F := Ideal) ⟨0, hn⟩ q
    refine (congrFun (acc_zero W c ⟨0, hn⟩ q) _).trans ?_
    obtain ⟨w1, w2⟩ := sched_word (F := Ideal) ⟨0, hn⟩
    rw [accStep_at _ _ _ _ _ w1 w2 _ (W c main_v15_0) _ _ _ (fun h p d => blk0 W c _ h p d), pay17_at, zero_add, blk1, blk2]
    rw [Finset.sum_eq_single (ki (F := Ideal) ⟨0, hn⟩) (fun b _ hb => if_neg fun l => hb (Fin.ext (by omega))) (fun x => absurd (Finset.mem_univ _) x), if_pos le_rfl]
  | succ n ih =>
    intro hn h p e
    obtain ⟨w1, w2⟩ := sched_word (F := Ideal) ⟨n + 1, hn⟩
    by_cases q : isZero (jw (F := Ideal) ⟨n + 1, hn⟩)
    · have z := sched_zero (F := Ideal) ⟨n + 1, hn⟩ q
      refine (congrFun (acc_zero W c ⟨n + 1, hn⟩ q) _).trans ?_
      rw [accStep_at _ _ _ _ _ w1 w2 _ (W c main_v15_0) _ _ _ (fun h p d => blk0 W c _ h p d), pay17_at, zero_add, blk1, blk2]
      rw [Finset.sum_eq_single (ki (F := Ideal) ⟨n + 1, hn⟩) (fun b _ hb => if_neg fun l => hb (Fin.ext (by omega))) (fun x => absurd (Finset.mem_univ _) x), if_pos le_rfl]
    · obtain ⟨z1, z2⟩ := sched_next (F := Ideal) ⟨n + 1, hn⟩ ⟨n, by omega⟩ rfl q
      refine (congrFun (acc_more W c ⟨n + 1, hn⟩ q) _).trans ?_
      rw [accStep_at _ _ _ _ _ w1 w2 _ (W c main_v15_0) _ _ _ (fun h p d => blk0 W c _ h p d), blk1, blk2]
      rw [show accB W c (n + 1) hn.le = acc W c n (by omega) from accB_succ W c n hn.le, ih (by omega), z1, add_comm]
      rw [← Finset.add_sum_erase _ _ (Finset.mem_univ (ki (F := Ideal) ⟨n + 1, hn⟩)), ← Finset.add_sum_erase Finset.univ (fun b : Fin 8 => if b.val ≤ (ki (F := Ideal) ⟨n + 1, hn⟩).val then _ else 0) (Finset.mem_univ (ki (F := Ideal) ⟨n + 1, hn⟩))]
      rw [if_neg (by omega), if_pos le_rfl, zero_add]
      refine congrArg₂ (· + ·) rfl (Finset.sum_congr rfl fun b hb => ?_)
      have hb' := Finset.ne_of_mem_erase hb
      have : b.val ≠ (ki (F := Ideal) ⟨n + 1, hn⟩).val := fun g => hb' (Fin.ext g)
      by_cases l : b.val ≤ (ki (F := Ideal) ⟨n, by omega⟩).val
      · rw [if_pos l, if_pos (by omega)]
      · rw [if_neg l, if_neg (by omega)]

/-- The sum over the keys a query attends to. -/
def rowSum (q : S16x2048x192.Idx → EReal) (k : S16x2048x192.Idx → EReal) (v : S16x2048x129.Idx → EReal) (h : Fin 16) (r : Fin 2048) (e : Fin 129) : EReal :=
  ∑ s : Fin 2048, if s.val ≤ r.val then Ideal.exp (∑ d : Fin 192, q (ix3 h r d) * k (ix3 h s d)) * v (ix3 h s e) else 0

/-- The blocks up to the query's own add up to that sum. -/
theorem blocks_rowSum (q : S16x2048x192.Idx → EReal) (k : S16x2048x192.Idx → EReal) (v : S16x2048x129.Idx → EReal) (i : Fin 8) (h : Fin 16) (p : Fin 256) (e : Fin 129) :
    (∑ b : Fin 8, if b.val ≤ i.val then blockSum q k v i b h p e else 0) = rowSum q k v h (rowAt i p) e := by
  unfold rowSum
  rw [← Equiv.sum_comp (finProdFinEquiv (m := 8) (n := 256)), Fintype.sum_prod_type]
  refine Finset.sum_congr rfl fun b _ => ?_
  have ev : ∀ s : Fin 256, (finProdFinEquiv (m := 8) (n := 256) (b, s) : Fin 2048) = rowAt b s := fun s => Fin.ext (by simp [finProdFinEquiv]; omega)
  by_cases l : b.val ≤ i.val
  · rw [if_pos l]
    unfold blockSum
    refine Finset.sum_congr rfl fun s _ => ?_
    rw [ev]
    by_cases g : b.val < i.val ∨ s.val ≤ p.val
    · rw [if_pos g, if_pos (show 256 * b.val + s.val ≤ 256 * i.val + p.val by omega)]
    · rw [if_neg g, if_neg (show ¬ 256 * b.val + s.val ≤ 256 * i.val + p.val by omega)]
      rw [show Ideal.exp ⊥ = 0 from rfl, zero_mul]
  · rw [if_neg l]
    refine (Finset.sum_eq_zero fun s _ => ?_).symm
    rw [ev]
    exact if_neg (show ¬ 256 * b.val + s.val ≤ 256 * i.val + p.val by omega)

/-- The layer's output after the call. -/
theorem arr4 : (dat W c).arrAt (4 : Fin 5) (cfgA (F := Ideal)).N = fun y : S2048x2048.Idx => ∑ x : Fin 2048,
      Ideal.div (rowSum (W c main_v15_0) (W c main_v15_1) (W c main_v15_2) ⟨x.val / 128, by omega⟩ (y 0) ⟨x.val % 128, by omega⟩)
        (rowSum (W c main_v15_0) (W c main_v15_1) (W c main_v15_2) ⟨x.val / 128, by omega⟩ (y 0) ⟨128, by omega⟩) * (W c main_v12 : S2048x2048.Idx → EReal) (ix2 x (y 1)) := by
  refine (dat W c).arrAt_eq_of_covers (4 : Fin 5) _ (by decide +kernel) fun t hf y => ?_
  have hc : k1_cond2 (iw t) (jw t) = 1#1 := by
    by_contra g
    exact absurd ((sched_run t g).2.symm.trans hf) (by decide)
  have hl := sched_last t hc
  have e := index_4 (F := Ideal) t
  blk_simp
  rw [after4]
  obtain ⟨p, n, rfl⟩ : ∃ (p : Fin 256) (n : Fin 2048), y = ix2 p n := ⟨y 0, y 1, eq_ix2 y⟩
  have k0 : (((cfgA (F := Ideal)).win (4 : Fin 5)).blk t).view.emb (ix2 p n) 0 = rowAt (qi t) p := Fin.ext (by blk_simp [e]; simp; omega)
  have k1 : (((cfgA (F := Ideal)).win (4 : Fin 5)).blk t).view.emb (ix2 p n) 1 = n := Fin.ext (by blk_simp [e])
  rw [k0, k1]
  refine (outBlk_at _ _ p n).trans ?_
  have ha : ∀ h e, acc W c t.val t.isLt (ix3 h p e) = rowSum (W c main_v15_0) (W c main_v15_1) (W c main_v15_2) h (rowAt (qi t) p) e := fun h e => by
    have g := acc_at W c t.val t.isLt h p e
    rw [show (⟨t.val, t.isLt⟩ : Fin (cfgA (F := Ideal)).N) = t from rfl, hl] at g
    exact g.trans (blocks_rowSum _ _ _ (qi t) h p e)
  refine Finset.sum_congr rfl fun x _ => ?_
  rw [ha, ha, blk3]
  rfl

end Cert.KernelIdeal.Attn

end
-- ==== Proof.Layer.lean ====
module

public import proofs.«01_k».proof.Proof.Math

/-! The whole layer on extended reals from its ten arguments, in the kernel's form and in the reference's, and that the two
    agree where the arguments are real. -/

@[expose] public section

noncomputable section

namespace Cert.Spec

open Idealize.ShloMosaic

/-- The layer's arguments: the input's rows, the embedding's cosines and sines by row, and the weights by output row. -/
structure Args where
  x : Fin 2048 → Fin 2048 → EReal
  co : Fin 2048 → Fin 64 → EReal
  si : Fin 2048 → Fin 64 → EReal
  wqa : Fin 1536 → Fin 2048 → EReal
  gq : Fin 1536 → EReal
  wqb : Fin 3072 → Fin 1536 → EReal
  wka : Fin 576 → Fin 2048 → EReal
  gk : Fin 512 → EReal
  wkb : Fin 4096 → Fin 512 → EReal
  wo : Fin 2048 → Fin 2048 → EReal

/-- The arguments from the programs' ten arrays. -/
def Args.of (a0 : (⟨3, ![1, 2048, 2048]⟩ : Shape).Idx → EReal) (a1 a2 : (⟨3, ![1, 2048, 64]⟩ : Shape).Idx → EReal) (a3 : (⟨2, ![1536, 2048]⟩ : Shape).Idx → EReal)
    (a4 : (⟨1, ![1536]⟩ : Shape).Idx → EReal) (a5 : (⟨2, ![3072, 1536]⟩ : Shape).Idx → EReal) (a6 : (⟨2, ![576, 2048]⟩ : Shape).Idx → EReal)
    (a7 : (⟨1, ![512]⟩ : Shape).Idx → EReal) (a8 : (⟨2, ![4096, 512]⟩ : Shape).Idx → EReal) (a9 : (⟨2, ![2048, 2048]⟩ : Shape).Idx → EReal) : Args where
  x r i := a0 (ix3 0 r i)
  co r i := a1 (ix3 0 r i)
  si r i := a2 (ix3 0 r i)
  wqa j i := a3 (ix2 j i)
  gq j := a4 (ix1 j)
  wqb j i := a5 (ix2 j i)
  wka j i := a6 (ix2 j i)
  gk j := a7 (ix1 j)
  wkb j i := a8 (ix2 j i)
  wo j i := a9 (ix2 j i)

namespace Args

variable (A : Args)

/-- The row of all queries, the row of all keys and values, and the keys' shared entries, of input row `r`. -/
def qv (r : Fin 2048) : Fin 3072 → EReal := qrow (A.x r) A.wqa A.gq A.wqb
def kv (r : Fin 2048) : Fin 4096 → EReal := kvrow (A.x r) A.wka A.gk A.wkb
def pe (r : Fin 2048) : Fin 64 → EReal := kpe (A.x r) (A.co r) (A.si r) A.wka

/-- Head `h`'s score of query `r` at key `s`. -/
def score (h : Fin 16) (r s : Fin 2048) : EReal := (∑ d : Fin 192, qraw (A.qv r) (A.co r) (A.si r) h d * kent (A.kv s) (A.pe s) h d) * scl

/-- Head `h`'s value entry `e` at key `s`. -/
def val (h : Fin 16) (s : Fin 2048) (e : Fin 128) : EReal := A.kv s ⟨256 * h.val + 128 + e.val, by omega⟩

/-- The head, and the entry in it, of a column of the heads side by side. -/
abbrev hd (x : Fin 2048) : Fin 16 := ⟨x.val / 128, by omega⟩
abbrev en (x : Fin 2048) : Fin 128 := ⟨x.val % 128, by omega⟩

/-- The layer as the kernel computes it: per head two sums over the keys a query attends to, and their quotient. -/
def outK (r n : Fin 2048) : EReal := ∑ x : Fin 2048,
  Ideal.div (∑ s : Fin 2048, if s.val ≤ r.val then Ideal.exp (A.score (hd x) r s) * A.val (hd x) s (en x) else 0)
    (∑ s : Fin 2048, if s.val ≤ r.val then Ideal.exp (A.score (hd x) r s) * 1 else 0) * A.wo n x

/-- The layer as the reference computes it, `M` taken off the scores. -/
def outR (M : Fin 16 → Fin 2048 → EReal) (r n : Fin 2048) : EReal := ∑ x : Fin 2048,
  (∑ s : Fin 2048, A.val (hd x) s (en x) * Ideal.div (Ideal.exp (A.score (hd x) r s + (if s.val ≤ r.val then 0 else ⊥) - M (hd x) r))
    (∑ j : Fin 2048, Ideal.exp (A.score (hd x) r j + (if j.val ≤ r.val then 0 else ⊥) - M (hd x) r))) * A.wo n x

/-- Every entry of every argument but the last projection's weights is a real number. -/
structure Real : Prop where
  x : ∀ r i, IsReal (A.x r i)
  co : ∀ r i, IsReal (A.co r i)
  si : ∀ r i, IsReal (A.si r i)
  wqa : ∀ r i, IsReal (A.wqa r i)
  gq : ∀ i, IsReal (A.gq i)
  wqb : ∀ r i, IsReal (A.wqb r i)
  wka : ∀ r i, IsReal (A.wka r i)
  gk : ∀ i, IsReal (A.gk i)
  wkb : ∀ r i, IsReal (A.wkb r i)

variable {A} (H : A.Real)
include H

theorem real_qv (r : Fin 2048) (j : Fin 3072) : IsReal (A.qv r j) :=
  isReal_lin (isReal_nrm (by norm_num) lenQ_eq (isReal_lin (H.x r) H.wqa) H.gq) H.wqb j
theorem real_kv (r : Fin 2048) (j : Fin 4096) : IsReal (A.kv r j) :=
  isReal_lin (isReal_nrm (by norm_num) lenK_eq (fun n => isReal_lin (H.x r) H.wka _) H.gk) H.wkb j
theorem real_pe (r : Fin 2048) (d : Fin 64) : IsReal (A.pe r d) := by
  refine isReal_rope (H.co r) (H.si r) (u := fun d => lin (A.x r) A.wka ⟨d.val + 512, by omega⟩) (fun e => ?_) d
  exact isReal_lin (H.x r) H.wka _
theorem real_score (h : Fin 16) (r s : Fin 2048) : IsReal (A.score h r s) :=
  (IsReal.sum fun d => (isReal_qraw (real_qv H r) (H.co r) (H.si r) h d).mul (isReal_kent (real_kv H s) (real_pe H s) h d)).mul scl_eq

/-- The kernel scales the queries, the reference the scores. -/
theorem scaled (h : Fin 16) (r s : Fin 2048) :
    (∑ d : Fin 192, qent scl (A.qv r) (A.co r) (A.si r) h d * kent (A.kv s) (A.pe s) h d) = A.score h r s := by
  simp only [qent_eq (real_qv H r) (H.co r) (H.si r) scl_eq]
  exact sum_mul_real (isReal_qraw (real_qv H r) (H.co r) (H.si r) h) (isReal_kent (real_kv H s) (real_pe H s) h) scl_eq

/-- The two forms agree, whatever real numbers are taken off. -/
theorem outK_eq (M : Fin 16 → Fin 2048 → EReal) (hM : ∀ h r, IsReal (M h r)) (r n : Fin 2048) : A.outK r n = A.outR M r n := by
  unfold outK outR
  refine Finset.sum_congr rfl fun x _ => congrArg (· * A.wo n x) ?_
  exact attn r (fun s => real_score H (hd x) r s) (fun s => real_kv H s _) (hM (hd x) r)

/-- A number between a query's own score and `⊤` is real. -/
theorem real_top {h : Fin 16} {r : Fin 2048} {M : EReal} (h1 : ∀ s : Fin 2048, A.score h r s + (if s.val ≤ r.val then 0 else ⊥) ≤ M)
    (h2 : (∀ s : Fin 2048, A.score h r s + (if s.val ≤ r.val then 0 else ⊥) < ⊤) → M < ⊤) : IsReal M := by
  have t := h2 fun s => by
    obtain ⟨a, ha⟩ := real_score H h r s
    rw [ha]
    split
    · rw [add_zero]; exact EReal.coe_lt_top a
    · rw [EReal.add_bot]; exact bot_lt_top
  have b := h1 r
  obtain ⟨a, ha⟩ := real_score H h r r
  rw [if_pos le_rfl, add_zero, ha] at b
  induction M with
  | bot => exact absurd (le_bot_iff.mp b) (EReal.coe_ne_bot a)
  | top => exact absurd t (lt_irrefl _)
  | coe a => exact ⟨a, rfl⟩

end Args

end Cert.Spec

end
-- ==== Proof.KernelEntry.lean ====
module

public import proofs.«01_k».proof.Proof.IdealRun
public import proofs.«01_k».proof.Proof.IdealProjArr
public import proofs.«01_k».proof.Proof.IdealAttnArr
public import proofs.«01_k».proof.Proof.Layer
public import Idealize.ShloMosaic.Lib.Pointwise
public import Idealize.ShloMosaic.Lib.Pipeline.FrameTail

/-! The kernel's result on extended reals is the layer in the kernel's form. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL

section views

variable {F : FTy → Type} [FloatOps F] [Named F]
variable (m : (ℓ : Loc nD τ sig) → Buf (Elt F) ℓ) (c : Dev nD)

/-! ## What the host leaves for the calls -/

theorem host_v0 : w0 m c main_v0 = shapeCast S2048x2048 (m ((c : Thread nD τ).loc main_arg0) : S1x2048x2048.Idx → Elt F .f32) shapeCasts_S1x2048x2048_S2048x2048 := rfl
theorem host_v1 : w0 m c main_v1 = shapeCast S2048x64 (m ((c : Thread nD τ).loc main_arg1) : S1x2048x64.Idx → Elt F .f32) shapeCasts_S1x2048x64_S2048x64 := rfl
theorem host_v2 : w0 m c main_v2 = shapeCast S2048x64 (m ((c : Thread nD τ).loc main_arg2) : S1x2048x64.Idx → Elt F .f32) shapeCasts_S1x2048x64_S2048x64 := rfl
theorem host_v4 : w0 m c main_v4 = truncf .bf16 (transpose S2048x1536 [1, 0] (m ((c : Thread nD τ).loc main_arg3) : S1536x2048.Idx → Elt F .f32) transposes_S1536x2048_S2048x1536_1_0) bitsLt_bf16_f32 := rfl
theorem host_v6 : w0 m c main_v6 = truncf .bf16 (transpose S1536x3072 [1, 0] (m ((c : Thread nD τ).loc main_arg5) : S3072x1536.Idx → Elt F .f32) transposes_S3072x1536_S1536x3072_1_0) bitsLt_bf16_f32 := rfl
theorem host_v8 : w0 m c main_v8 = truncf .bf16 (transpose S2048x576 [1, 0] (m ((c : Thread nD τ).loc main_arg6) : S576x2048.Idx → Elt F .f32) transposes_S576x2048_S2048x576_1_0) bitsLt_bf16_f32 := rfl
theorem host_v10 : w0 m c main_v10 = truncf .bf16 (transpose S512x4096 [1, 0] (m ((c : Thread nD τ).loc main_arg8) : S4096x512.Idx → Elt F .f32) transposes_S4096x512_S512x4096_1_0) bitsLt_bf16_f32 := rfl
theorem host_v12 : w1 m c main_v12 = truncf .bf16 (transpose S2048x2048 [1, 0] (m ((c : Thread nD τ).loc main_arg9) : S2048x2048.Idx → Elt F .f32) transposes_S2048x2048_S2048x2048_1_0) bitsLt_bf16_f32 :=
  (V2_of m (outs0 m) c main_v12 (by decide)).trans rfl
theorem host_v13 : w0 m c main_v13 = shapeCast S1x1536 (m ((c : Thread nD τ).loc main_arg4) : S1536.Idx → Elt F .f32) shapeCasts_S1536_S1x1536 := rfl
theorem host_v14 : w0 m c main_v14 = shapeCast S1x512 (m ((c : Thread nD τ).loc main_arg7) : S512.Idx → Elt F .f32) shapeCasts_S512_S1x512 := rfl

/-- The result is the attention's array under one more axis. -/
theorem host_v17 : V4 m (outs m) c main_v17 = shapeCast S1x2048x2048 (V3 m (outs m) c main_v16 : S2048x2048.Idx → Elt F .f32) shapeCasts_S2048x2048_S1x2048x2048 := rfl

/-! ## What the calls leave -/

theorem left_q : w1 m c main_v15_0 = (Proj.dat (w0 m) c).arrAt 9 cfg0.N :=
  (after0_eq m c main_v15_0).symm.trans (Pipeline.afterRegion_arr (Proj.dat (w0 m) c) (V1 m c) (launch0 (F := F)).win.arr_inj 9)
theorem left_k : w1 m c main_v15_1 = (Proj.dat (w0 m) c).arrAt 10 cfg0.N :=
  (after0_eq m c main_v15_1).symm.trans (Pipeline.afterRegion_arr (Proj.dat (w0 m) c) (V1 m c) (launch0 (F := F)).win.arr_inj 10)
theorem left_v : w1 m c main_v15_2 = (Proj.dat (w0 m) c).arrAt 11 cfg0.N :=
  (after0_eq m c main_v15_2).symm.trans (Pipeline.afterRegion_arr (Proj.dat (w0 m) c) (V1 m c) (launch0 (F := F)).win.arr_inj 11)
theorem left_out : V3 m (outs m) c main_v16 = (Attn.dat (w1 m) c).arrAt (4 : Fin 5) (Attn.cfgA (F := F)).N :=
  (after1_eq m c main_v16).symm.trans (Pipeline.afterRegion_arr (Attn.dat (w1 m) c) (V2 m (outs0 m) c) (launch1 (F := F)).win.arr_inj (4 : Fin 5))

end views

/-! ## On extended reals -/

variable (m : (ℓ : Loc nD τ sig) → Buf (Elt Ideal) ℓ) (c : Dev nD)

/-- The layer's arguments in the launch memory. -/
def args : Spec.Args := Spec.Args.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9))

/-- A reshape that drops a first axis of one, and one that adds it. -/
theorem drop_at {a b : ℕ} (x : (⟨3, ![1, a, b]⟩ : Shape).Idx → EReal) (h : (⟨3, ![1, a, b]⟩ : Shape).ShapeCasts ⟨2, ![a, b]⟩) (r : Fin a) (i : Fin b) :
    shapeCast ⟨2, ![a, b]⟩ x h (ix2 r i) = x (ix3 0 r i) := by
  refine (shapeCast_dropUnit_apply ![a, b] x h (ix2 r i)).trans (congrArg x (funext fun | 0 => rfl | 1 => rfl | 2 => rfl))
theorem add_at {a b : ℕ} (x : (⟨2, ![a, b]⟩ : Shape).Idx → EReal) (h : (⟨2, ![a, b]⟩ : Shape).ShapeCasts ⟨3, ![1, a, b]⟩) (r : Fin a) (i : Fin b) :
    shapeCast ⟨3, ![1, a, b]⟩ x h (ix3 0 r i) = x (ix2 r i) := by
  refine (shapeCast_addUnit_apply ![a, b] x h (ix3 0 r i)).trans (congrArg x (funext fun | 0 => rfl | 1 => rfl))

theorem row_v0 (r : Fin 2048) : Proj.row (a := 2048) (b := 2048) (w0 m c main_v0) r = (args m c).x r :=
  funext fun i => (congrFun (host_v0 m c) (ix2 r i)).trans (drop_at (a := 2048) (b := 2048) _ _ r i)
theorem row_v1 (r : Fin 2048) : Proj.row (a := 2048) (b := 64) (w0 m c main_v1) r = (args m c).co r :=
  funext fun i => (congrFun (host_v1 m c) (ix2 r i)).trans (drop_at (a := 2048) (b := 64) _ _ r i)
theorem row_v2 (r : Fin 2048) : Proj.row (a := 2048) (b := 64) (w0 m c main_v2) r = (args m c).si r :=
  funext fun i => (congrFun (host_v2 m c) (ix2 r i)).trans (drop_at (a := 2048) (b := 64) _ _ r i)
theorem row_v13 : Proj.row (a := 1) (b := 1536) (w0 m c main_v13) 0 = (args m c).gq := by
  funext i; rw [host_v13]; pointwise []; rfl
theorem row_v14 : Proj.row (a := 1) (b := 512) (w0 m c main_v14) 0 = (args m c).gk := by
  funext i; rw [host_v14]; pointwise []; rfl
theorem col_v4 : Proj.col (a := 2048) (b := 1536) (w0 m c main_v4) = (args m c).wqa := by
  funext j i; rw [host_v4]; pointwise []; rfl
theorem col_v6 : Proj.col (a := 1536) (b := 3072) (w0 m c main_v6) = (args m c).wqb := by
  funext j i; rw [host_v6]; pointwise []; rfl
theorem col_v8 : Proj.col (a := 2048) (b := 576) (w0 m c main_v8) = (args m c).wka := by
  funext j i; rw [host_v8]; pointwise []; rfl
theorem col_v10 : Proj.col (a := 512) (b := 4096) (w0 m c main_v10) = (args m c).wkb := by
  funext j i; rw [host_v10]; pointwise []; rfl
theorem at_v12 (n x : Fin 2048) : (w1 m c main_v12 : S2048x2048.Idx → EReal) (ix2 x n) = (args m c).wo n x := by
  rw [host_v12]; pointwise []; rfl

/-- The rows of the two calls' intermediate arrays are the layer's. -/
theorem qAt_eq (r : Fin 2048) : Proj.qAt (w0 m) c r = (args m c).qv r := by
  unfold Proj.qAt
  rw [row_v0, col_v4, row_v13, col_v6]; rfl
theorem kvAt_eq (r : Fin 2048) : Proj.kvAt (w0 m) c r = (args m c).kv r := by
  unfold Proj.kvAt
  rw [row_v0, col_v8, row_v14, col_v10]; rfl
theorem peAt_eq (r : Fin 2048) : Proj.peAt (w0 m) c r = (args m c).pe r := by
  unfold Proj.peAt
  rw [row_v0, row_v1, row_v2, col_v8]; rfl

theorem q_at (h : Fin 16) (r : Fin 2048) (d : Fin 192) :
    (w1 m c main_v15_0 : S16x2048x192.Idx → EReal) (ix3 h r d) = Spec.qent Spec.scl ((args m c).qv r) ((args m c).co r) ((args m c).si r) h d := by
  refine (congrFun ((left_q m c).trans (Proj.arr9 (w0 m) c)) (ix3 h r d)).trans ?_
  show Spec.qent Spec.scl (Proj.qAt (w0 m) c r) (Proj.row (a := 2048) (b := 64) (w0 m c main_v1) r) (Proj.row (a := 2048) (b := 64) (w0 m c main_v2) r) h d = _
  rw [qAt_eq, row_v1, row_v2]
theorem k_at (h : Fin 16) (r : Fin 2048) (d : Fin 192) :
    (w1 m c main_v15_1 : S16x2048x192.Idx → EReal) (ix3 h r d) = Spec.kent ((args m c).kv r) ((args m c).pe r) h d := by
  refine (congrFun ((left_k m c).trans (Proj.arr10 (w0 m) c)) (ix3 h r d)).trans ?_
  show Spec.kent (Proj.kvAt (w0 m) c r) (Proj.peAt (w0 m) c r) h d = _
  rw [kvAt_eq, peAt_eq]
theorem v_at (h : Fin 16) (r : Fin 2048) (e : Fin 129) :
    (w1 m c main_v15_2 : S16x2048x129.Idx → EReal) (ix3 h r e) = Spec.vent ((args m c).kv r) h e := by
  refine (congrFun ((left_v m c).trans (Proj.arr11 (w0 m) c)) (ix3 h r e)).trans ?_
  show Spec.vent (Proj.kvAt (w0 m) c r) h e = _
  rw [kvAt_eq]

/-- A head's sum over the keys that a query attends to, where the arguments are real. -/
theorem rowSum_of {A : Spec.Args} (H : A.Real) (q k : S16x2048x192.Idx → EReal) (v : S16x2048x129.Idx → EReal)
    (hq : ∀ h r d, q (ix3 h r d) = Spec.qent Spec.scl (A.qv r) (A.co r) (A.si r) h d) (hk : ∀ h r d, k (ix3 h r d) = Spec.kent (A.kv r) (A.pe r) h d)
    (hv : ∀ h r e, v (ix3 h r e) = Spec.vent (A.kv r) h e) (h : Fin 16) (r : Fin 2048) (e : Fin 129) :
    Attn.rowSum q k v h r e = ∑ s : Fin 2048, if s.val ≤ r.val then Ideal.exp (A.score h r s) * Spec.vent (A.kv s) h e else 0 := by
  unfold Attn.rowSum
  refine Finset.sum_congr rfl fun s _ => ?_
  have e1 : (∑ d : Fin 192, q (ix3 h r d) * k (ix3 h s d)) = A.score h r s :=
    (Finset.sum_congr rfl fun d _ => congrArg₂ (· * ·) (hq h r d) (hk h s d)).trans (Spec.Args.scaled H h r s)
  rw [e1, hv]

/-- The attention's entry from such arrays is the layer's. -/
theorem out_of {A : Spec.Args} (H : A.Real) (q k : S16x2048x192.Idx → EReal) (v : S16x2048x129.Idx → EReal) (w : S2048x2048.Idx → EReal)
    (hq : ∀ h r d, q (ix3 h r d) = Spec.qent Spec.scl (A.qv r) (A.co r) (A.si r) h d) (hk : ∀ h r d, k (ix3 h r d) = Spec.kent (A.kv r) (A.pe r) h d)
    (hv : ∀ h r e, v (ix3 h r e) = Spec.vent (A.kv r) h e) (hw : ∀ n x, w (ix2 x n) = A.wo n x) (r n : Fin 2048) :
    (∑ x : Fin 2048, Ideal.div (Attn.rowSum q k v ⟨x.val / 128, by omega⟩ r ⟨x.val % 128, by omega⟩)
      (Attn.rowSum q k v ⟨x.val / 128, by omega⟩ r ⟨128, by omega⟩) * w (ix2 x n)) = A.outK r n := by
  unfold Spec.Args.outK
  refine Finset.sum_congr rfl fun x _ => ?_
  rw [rowSum_of H q k v hq hk hv, rowSum_of H q k v hq hk hv, hw]
  have e : ∀ s, Spec.vent (A.kv s) (Spec.Args.hd x) ⟨x.val % 128, by omega⟩ = A.val (Spec.Args.hd x) s (Spec.Args.en x) := fun s =>
    dif_pos (Nat.mod_lt _ (by decide))
  have e' : ∀ s, Spec.vent (A.kv s) (Spec.Args.hd x) ⟨128, by omega⟩ = 1 := fun s => dif_neg (lt_irrefl _)
  simp only [e, e']

/-- An entry of the result, where the arguments are real. -/
theorem result_at (H : (args m c).Real) (r n : Fin 2048) :
    (V4 m (outs m) c main_v17 : S1x2048x2048.Idx → EReal) (ix3 0 r n) = (args m c).outK r n := by
  refine (congrFun (host_v17 m c) (ix3 0 r n)).trans ((add_at (a := 2048) (b := 2048) _ _ r n).trans ?_)
  refine (congrFun ((left_out m c).trans (Attn.arr4 (w1 m) c)) (ix2 r n)).trans ?_
  exact out_of H _ _ _ _ (q_at m c) (k_at m c) (v_at m c) (at_v12 m c) r n

end Cert.KernelIdeal.Run

end
-- ==== Proof.RefStages.lean ====
module

public import proofs.«01_k».proof.Proof.Gen.ReferenceIdeal.Run
public import Idealize.ShloMosaic.Lib.Tactic

/-! The reference's term, cut into the stages a reader would name. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Idealize.SL

variable {F : FTy → Type} [FloatOps F]

/-- A row times a weight matrix, the first of the two low-rank projections of the queries. -/
def aQ (x : S1x2048x2048.Idx → Elt F .f32) (wa : S1536x2048.Idx → Elt F .f32) : S1x2048x1536.Idx → Elt F .f32 :=
  Host.dotGeneral dot_S1x2048x2048_S2048x1536_S1x2048x1536_2_0_01_1_n_n none x (transpose S2048x1536 [1, 0] wa transposes_S1536x2048_S2048x1536_1_0)

/-- The queries of all heads, from that projection. -/
def bQ (a : S1x2048x1536.Idx → Elt F .f32) (g : S1536.Idx → Elt F .f32) (wb : S3072x1536.Idx → Elt F .f32) : S1x2048x3072.Idx → Elt F .f32 :=
  Host.dotGeneral dot_S1x2048x1536_S1536x3072_S1x2048x3072_2_0_01_1_n_n none
    (mulf (broadcastInDim S1x2048x1536 ![0, 1, 2] bcast_S1x1x1536_S1x2048x1536_0_1_2 (broadcastInDim S1x1x1536 ![2] bcast_S1536_S1x1x1536_2 g))
      (mulf a (broadcastInDim S1x2048x1536 ![0, 1, 2] bcast_S1x2048x1_S1x2048x1536_0_1_2
        (Host.rsqrt (addf (Host.divf (broadcastInDim S1x2048x1 ![0, 1] bcast_S1x2048_S1x2048x1_0_1
          (Host.reduceAdd (mulf a a) (constant S_ .f32 0x00000000#32) reducesTo_S1x2048x1536_S1x2048_d2 h_S_))
          (broadcastInDim S1x2048x1 ![] bcast_S_S1x2048x1 (constant S_ .f32 0x44C00000#32)))
          (broadcastInDim S1x2048x1 ![] bcast_S_S1x2048x1 (constant S_ .f32 0x358637BD#32)))))))
    (transpose S1536x3072 [1, 0] wb transposes_S3072x1536_S1536x3072_1_0)

/-- The first projection of the keys and values. -/
def aK (x : S1x2048x2048.Idx → Elt F .f32) (wa : S576x2048.Idx → Elt F .f32) : S1x2048x576.Idx → Elt F .f32 :=
  Host.dotGeneral dot_S1x2048x2048_S2048x576_S1x2048x576_2_0_01_1_n_n none x (transpose S2048x576 [1, 0] wa transposes_S576x2048_S2048x576_1_0)

/-- Its first 512 columns. -/
def cK (u : S1x2048x576.Idx → Elt F .f32) : S1x2048x512.Idx → Elt F .f32 :=
  extractStridedSlice S1x2048x512 ![0, 0, 0] u slices_S1x2048x576_S1x2048x512_0_0_0

/-- The keys and values of all heads, from those columns. -/
def bK (a : S1x2048x512.Idx → Elt F .f32) (g : S512.Idx → Elt F .f32) (wb : S4096x512.Idx → Elt F .f32) : S1x2048x4096.Idx → Elt F .f32 :=
  Host.dotGeneral dot_S1x2048x512_S512x4096_S1x2048x4096_2_0_01_1_n_n none
    (mulf (broadcastInDim S1x2048x512 ![0, 1, 2] bcast_S1x1x512_S1x2048x512_0_1_2 (broadcastInDim S1x1x512 ![2] bcast_S512_S1x1x512_2 g))
      (mulf a (broadcastInDim S1x2048x512 ![0, 1, 2] bcast_S1x2048x1_S1x2048x512_0_1_2
        (Host.rsqrt (addf (Host.divf (broadcastInDim S1x2048x1 ![0, 1] bcast_S1x2048_S1x2048x1_0_1
          (Host.reduceAdd (mulf a a) (constant S_ .f32 0x00000000#32) reducesTo_S1x2048x512_S1x2048_d2 h_S_))
          (broadcastInDim S1x2048x1 ![] bcast_S_S1x2048x1 (constant S_ .f32 0x44000000#32)))
          (broadcastInDim S1x2048x1 ![] bcast_S_S1x2048x1 (constant S_ .f32 0x358637BD#32)))))))
    (transpose S512x4096 [1, 0] wb transposes_S4096x512_S512x4096_1_0)

/-- The queries by head. -/
def hQ (q : S1x2048x3072.Idx → Elt F .f32) : S1x16x2048x192.Idx → Elt F .f32 :=
  transpose S1x16x2048x192 [0, 2, 1, 3] (shapeCast S1x2048x16x192 q shapeCasts_S1x2048x3072_S1x2048x16x192) transposes_S1x2048x16x192_S1x16x2048x192_0_2_1_3

/-- The keys and values by head. -/
def hK (k : S1x2048x4096.Idx → Elt F .f32) : S1x16x2048x256.Idx → Elt F .f32 :=
  transpose S1x16x2048x256 [0, 2, 1, 3] (shapeCast S1x2048x16x256 k shapeCasts_S1x2048x4096_S1x2048x16x256) transposes_S1x2048x16x256_S1x16x2048x256_0_2_1_3

/-- The queries' last 64 entries, embedded. -/
def rQ (q : S1x16x2048x192.Idx → Elt F .f32) (co si : S1x2048x64.Idx → Elt F .f32) : S1x16x2048x64.Idx → Elt F .f32 :=
  let u : S1x16x2048x64.Idx → Elt F .f32 := extractStridedSlice S1x16x2048x64 ![0, 0, 0, 128] q slices_S1x16x2048x192_S1x16x2048x64_0_0_0_128
  addf (mulf u (broadcastInDim S1x16x2048x64 ![0, 1, 2, 3] bcast_S1x1x2048x64_S1x16x2048x64_0_1_2_3 (broadcastInDim S1x1x2048x64 ![0, 2, 3] bcast_S1x2048x64_S1x1x2048x64_0_2_3 co)))
    (mulf (fn_main_v51 (Host.negf (extractStridedSlice S1x16x2048x32 ![0, 0, 0, 32] u slices_S1x16x2048x64_S1x16x2048x32_0_0_0_32))
        (extractStridedSlice S1x16x2048x32 ![0, 0, 0, 0] u slices_S1x16x2048x64_S1x16x2048x32_0_0_0_0))
      (broadcastInDim S1x16x2048x64 ![0, 1, 2, 3] bcast_S1x1x2048x64_S1x16x2048x64_0_1_2_3 (broadcastInDim S1x1x2048x64 ![0, 2, 3] bcast_S1x2048x64_S1x1x2048x64_0_2_3 si)))

/-- The keys' shared 64 entries, embedded. -/
def rK (u : S1x2048x576.Idx → Elt F .f32) (co si : S1x2048x64.Idx → Elt F .f32) : S1x1x2048x64.Idx → Elt F .f32 :=
  let v : S1x1x2048x64.Idx → Elt F .f32 := broadcastInDim S1x1x2048x64 ![0, 2, 3] bcast_S1x2048x64_S1x1x2048x64_0_2_3
    (extractStridedSlice S1x2048x64 ![0, 0, 512] u slices_S1x2048x576_S1x2048x64_0_0_512)
  addf (mulf v (broadcastInDim S1x1x2048x64 ![0, 2, 3] bcast_S1x2048x64_S1x1x2048x64_0_2_3 co))
    (mulf (fn_main_v60 (Host.negf (extractStridedSlice S1x1x2048x32 ![0, 0, 0, 32] v slices_S1x1x2048x64_S1x1x2048x32_0_0_0_32))
        (extractStridedSlice S1x1x2048x32 ![0, 0, 0, 0] v slices_S1x1x2048x64_S1x1x2048x32_0_0_0_0))
      (broadcastInDim S1x1x2048x64 ![0, 2, 3] bcast_S1x2048x64_S1x1x2048x64_0_2_3 si))

/-- All the queries' entries. -/
def fQ (q : S1x16x2048x192.Idx → Elt F .f32) (r : S1x16x2048x64.Idx → Elt F .f32) : S1x16x2048x192.Idx → Elt F .f32 :=
  fn_main_v65 (extractStridedSlice S1x16x2048x128 ![0, 0, 0, 0] q slices_S1x16x2048x192_S1x16x2048x128_0_0_0_0) r

/-- All the keys' entries. -/
def fK (k : S1x16x2048x256.Idx → Elt F .f32) (r : S1x1x2048x64.Idx → Elt F .f32) : S1x16x2048x192.Idx → Elt F .f32 :=
  fn_main_v64 (extractStridedSlice S1x16x2048x128 ![0, 0, 0, 0] k slices_S1x16x2048x256_S1x16x2048x128_0_0_0_0)
    (broadcastInDim S1x16x2048x64 ![0, 1, 2, 3] bcast_S1x1x2048x64_S1x16x2048x64_0_1_2_3 r)

/-- The causal mask: zero where a query attends, minus infinity elsewhere. -/
def mask : S2048x2048.Idx → Elt F .f32 :=
  select (cmpi .sge (broadcastInDim S2048x2048 ![0, 1] bcast_S2048x1_S2048x2048_0_1 (broadcastInDim S2048x1 ![0] bcast_S2048_S2048x1_0 (iotaInDim S2048 32 0 : S2048.Idx → Elt F .i32)))
      (broadcastInDim S2048x2048 ![0, 1] bcast_S1x2048_S2048x2048_0_1 (broadcastInDim S1x2048 ![1] bcast_S2048_S1x2048_1 (iotaInDim S2048 32 0 : S2048.Idx → Elt F .i32))) : S2048x2048.Idx → Elt F .i1)
    (broadcastInDim S2048x2048 ![] bcast_S_S2048x2048 (constant S_ .f32 0x00000000#32))
    (broadcastInDim S2048x2048 ![] bcast_S_S2048x2048 (constant S_ .f32 0xFF800000#32))

/-- The masked scores. -/
def scores (q k : S1x16x2048x192.Idx → Elt F .f32) : S1x16x2048x2048.Idx → Elt F .f32 :=
  addf (mulf (Host.dotGeneral dot_S1x16x2048x192_S1x16x2048x192_S1x16x2048x2048_3_3_2_2_01_01 none q k)
      (broadcastInDim S1x16x2048x2048 ![] bcast_S_S1x16x2048x2048 (constant S_ .f32 0x3D93CD3A#32)))
    (broadcastInDim S1x16x2048x2048 ![0, 1, 2, 3] bcast_S1x1x2048x2048_S1x16x2048x2048_0_1_2_3
      (broadcastInDim S1x1x2048x2048 ![2, 3] bcast_S2048x2048_S1x1x2048x2048_2_3 (mask (F := F))))

/-- The largest score of each query. -/
def tops (s : S1x16x2048x2048.Idx → Elt F .f32) : S1x16x2048.Idx → Elt F .f32 :=
  maximumf (broadcastInDim S1x16x2048 ![] bcast_S_S1x16x2048 (constant S_ .f32 0xFF800000#32))
    (Host.reduce FloatOps.maximumf s (constant S_ .f32 0xFF800000#32) reducesTo_S1x16x2048x2048_S1x16x2048_d3 h_S_)

/-- The exponentials, each query's largest score taken off. -/
def exps (s : S1x16x2048x2048.Idx → Elt F .f32) (M : S1x16x2048.Idx → Elt F .f32) : S1x16x2048x2048.Idx → Elt F .f32 :=
  Host.exp (subf s (broadcastInDim S1x16x2048x2048 ![0, 1, 2, 3] bcast_S1x16x2048x1_S1x16x2048x2048_0_1_2_3
    (broadcastInDim S1x16x2048x1 ![0, 1, 2] bcast_S1x16x2048_S1x16x2048x1_0_1_2 M)))

/-- The probabilities. -/
def probs (p : S1x16x2048x2048.Idx → Elt F .f32) : S1x16x2048x2048.Idx → Elt F .f32 :=
  Host.divf p (broadcastInDim S1x16x2048x2048 ![0, 1, 2, 3] bcast_S1x16x2048x1_S1x16x2048x2048_0_1_2_3
    (broadcastInDim S1x16x2048x1 ![0, 1, 2] bcast_S1x16x2048_S1x16x2048x1_0_1_2
      (Host.reduceAdd p (constant S_ .f32 0x00000000#32) reducesTo_S1x16x2048x2048_S1x16x2048_d3 h_S_)))

/-- The output, from the keys and values by head and the probabilities. -/
def outs (k : S1x16x2048x256.Idx → Elt F .f32) (p : S1x16x2048x2048.Idx → Elt F .f32) (wo : S2048x2048.Idx → Elt F .f32) : S1x2048x2048.Idx → Elt F .f32 :=
  Host.dotGeneral dot_S1x2048x2048_S2048x2048_S1x2048x2048_2_0_01_1_n_n none
    (shapeCast S1x2048x2048 (transpose S1x2048x16x128 [0, 3, 1, 2]
      (Host.dotGeneral dot_S1x16x2048x128_S1x16x2048x2048_S1x16x128x2048_2_3_3_2_01_01 none
        (extractStridedSlice S1x16x2048x128 ![0, 0, 0, 128] k slices_S1x16x2048x256_S1x16x2048x128_0_0_0_128) p)
      transposes_S1x16x128x2048_S1x2048x16x128_0_3_1_2) shapeCasts_S1x2048x16x128_S1x2048x2048)
    (transpose S2048x2048 [1, 0] wo transposes_S2048x2048_S2048x2048_1_0)

/-- The reference as those stages. -/
def whole (x : S1x2048x2048.Idx → Elt F .f32) (co si : S1x2048x64.Idx → Elt F .f32) (wqa : S1536x2048.Idx → Elt F .f32) (gq : S1536.Idx → Elt F .f32)
    (wqb : S3072x1536.Idx → Elt F .f32) (wka : S576x2048.Idx → Elt F .f32) (gk : S512.Idx → Elt F .f32) (wkb : S4096x512.Idx → Elt F .f32)
    (wo : S2048x2048.Idx → Elt F .f32) : S1x2048x2048.Idx → Elt F .f32 :=
  let q := hQ (bQ (aQ x wqa) gq wqb)
  let u := aK x wka
  let k := hK (bK (cK u) gk wkb)
  let s := scores (fQ q (rQ q co si)) (fK k (rK u co si))
  outs k (probs (exps s (tops s))) wo

theorem res_eq (m : (ℓ : Loc nD τ sig) → Buf (Elt F) ℓ) (c : Dev nD) :
    res_main_v95 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := by
  sl_kernel_rfl

end Cert.ReferenceIdeal.Value

end
-- ==== Proof.RefValue.lean ====
module

public import proofs.«01_k».proof.Proof.RefStages
public import proofs.«01_k».proof.Proof.Spec
public import Idealize.ShloMosaic.Lib.Pointwise
public import Idealize.ShloMosaic.Lib.WordCmp

/-! The reference's stages on extended reals, read at an index. -/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic Idealize.SL

/-- Row `r` of an array of one batch, and a matrix by its rows. -/
abbrev row3 {a b : ℕ} (x : (⟨3, ![1, a, b]⟩ : Shape).Idx → EReal) (r : Fin a) : Fin b → EReal := fun i => x (ix3 0 r i)
abbrev mat {a b : ℕ} (w : (⟨2, ![a, b]⟩ : Shape).Idx → EReal) : Fin a → Fin b → EReal := fun j i => w (ix2 j i)
abbrev vec {a : ℕ} (w : (⟨1, ![a]⟩ : Shape).Idx → EReal) : Fin a → EReal := fun j => w (ix1 j)

theorem aQ_at (x : S1x2048x2048.Idx → EReal) (wa : S1536x2048.Idx → EReal) (r : Fin 2048) :
    row3 (a := 2048) (b := 1536) (aQ (F := Ideal) x wa) r = Spec.lin (row3 (a := 2048) (b := 2048) x r) (mat (a := 1536) (b := 2048) wa) := by
  funext j
  show aQ (F := Ideal) x wa (ix3 0 r j) = _
  unfold Spec.lin
  pointwise [aQ]

theorem aK_at (x : S1x2048x2048.Idx → EReal) (wa : S576x2048.Idx → EReal) (r : Fin 2048) :
    row3 (a := 2048) (b := 576) (aK (F := Ideal) x wa) r = Spec.lin (row3 (a := 2048) (b := 2048) x r) (mat (a := 576) (b := 2048) wa) := by
  funext j
  show aK (F := Ideal) x wa (ix3 0 r j) = _
  unfold Spec.lin
  pointwise [aK]

theorem bQ_at (a : S1x2048x1536.Idx → EReal) (g : S1536.Idx → EReal) (wb : S3072x1536.Idx → EReal) (r : Fin 2048) :
    row3 (a := 2048) (b := 3072) (bQ (F := Ideal) a g wb) r
      = Spec.lin (Spec.nrm Spec.lenQ (row3 (a := 2048) (b := 1536) a r) (vec (a := 1536) g)) (mat (a := 3072) (b := 1536) wb) := by
  funext j
  show bQ (F := Ideal) a g wb (ix3 0 r j) = _
  unfold Spec.lin Spec.nrm Spec.inv
  pointwise [bQ]
  exact Finset.sum_congr rfl fun x _ => congrArg₂ (· * ·) (mul_comm _ _) rfl

theorem bK_at (a : S1x2048x512.Idx → EReal) (g : S512.Idx → EReal) (wb : S4096x512.Idx → EReal) (r : Fin 2048) :
    row3 (a := 2048) (b := 4096) (bK (F := Ideal) a g wb) r
      = Spec.lin (Spec.nrm Spec.lenK (row3 (a := 2048) (b := 512) a r) (vec (a := 512) g)) (mat (a := 4096) (b := 512) wb) := by
  funext j
  show bK (F := Ideal) a g wb (ix3 0 r j) = _
  unfold Spec.lin Spec.nrm Spec.inv
  pointwise [bK]
  exact Finset.sum_congr rfl fun x _ => congrArg₂ (· * ·) (mul_comm _ _) rfl

theorem cK_at (u : S1x2048x576.Idx → EReal) (r : Fin 2048) (n : Fin 512) : cK (F := Ideal) u (ix3 0 r n) = u (ix3 0 r ⟨n.val, by omega⟩) := by
  pointwise [cK]

theorem hQ_at (q : S1x2048x3072.Idx → EReal) (h : Fin 16) (r : Fin 2048) (d : Fin 192) : hQ (F := Ideal) q (ix4 0 h r d) = q (ix3 0 r ⟨192 * h.val + d.val, by omega⟩) := by
  pointwise [hQ]
  exact congrArg q (congrArg (ix3 0 r) (Fin.ext (by show _ * _ + _ = _ * _ + _; omega)))

theorem hK_at (q : S1x2048x4096.Idx → EReal) (h : Fin 16) (r : Fin 2048) (d : Fin 256) : hK (F := Ideal) q (ix4 0 h r d) = q (ix3 0 r ⟨256 * h.val + d.val, by omega⟩) := by
  pointwise [hK]
  exact congrArg q (congrArg (ix3 0 r) (Fin.ext (by show _ * _ + _ = _ * _ + _; omega)))

theorem rQ_at (q : S1x16x2048x192.Idx → EReal) (co si : S1x2048x64.Idx → EReal) (h : Fin 16) (r : Fin 2048) (d : Fin 64) :
    rQ (F := Ideal) q co si (ix4 0 h r d)
      = Spec.rope (row3 (a := 2048) (b := 64) co r) (row3 (a := 2048) (b := 64) si r) (fun e => q (ix4 0 h r ⟨128 + e.val, by omega⟩)) d := by
  unfold Spec.rope
  pointwise [rQ, fn_main_v51]
  by_cases l : d.val < 32
  · rw [dif_pos l, dif_pos l, EReal.neg_mul, ← sub_eq_add_neg]
    refine congrArg₂ (· - ·) rfl (congrArg₂ (· * ·) (congrArg q (congrArg (ix4 0 h r) (Fin.ext ?_))) rfl)
    show 128 + (32 + d.val) = 128 + (d.val + 32)
    omega
  · rw [dif_neg l, dif_neg l]

theorem rK_at (u : S1x2048x576.Idx → EReal) (co si : S1x2048x64.Idx → EReal) (r : Fin 2048) (d : Fin 64) :
    rK (F := Ideal) u co si (ix4 0 0 r d)
      = Spec.rope (row3 (a := 2048) (b := 64) co r) (row3 (a := 2048) (b := 64) si r) (fun e => u (ix3 0 r ⟨e.val + 512, by omega⟩)) d := by
  unfold Spec.rope
  pointwise [rK, fn_main_v60]
  have e : ∀ n n' : Fin 576, n.val = n'.val → u (ix3 0 r n) = u (ix3 0 r n') := fun n n' g => by rw [Fin.ext g]
  by_cases l : d.val < 32
  · rw [dif_pos l, dif_pos l, EReal.neg_mul, ← sub_eq_add_neg]
    refine congrArg₂ (· - ·) (congrArg₂ (· * ·) (e _ _ ?_) rfl) (congrArg₂ (· * ·) (e _ _ ?_) rfl)
    · show 512 + d.val = d.val + 512
      omega
    · show 512 + (32 + d.val) = d.val + 32 + 512
      omega
  · rw [dif_neg l, dif_neg l]
    refine congrArg₂ (· + ·) (congrArg₂ (· * ·) (e _ _ ?_) rfl) (congrArg₂ (· * ·) (e _ _ ?_) rfl)
    · show 512 + d.val = d.val + 512
      omega
    · show 512 + (d.val - 32) = d.val - 32 + 512
      omega

theorem fQ_at (q : S1x16x2048x192.Idx → EReal) (v : S1x16x2048x64.Idx → EReal) (h : Fin 16) (r : Fin 2048) (d : Fin 192) :
    fQ (F := Ideal) q v (ix4 0 h r d) = if hd : d.val < 128 then q (ix4 0 h r d) else v (ix4 0 h r ⟨d.val - 128, by omega⟩) := by
  pointwise [fQ, fn_main_v65]

theorem fK_at (k : S1x16x2048x256.Idx → EReal) (v : S1x1x2048x64.Idx → EReal) (h : Fin 16) (r : Fin 2048) (d : Fin 192) :
    fK (F := Ideal) k v (ix4 0 h r d) = if hd : d.val < 128 then k (ix4 0 h r ⟨d.val, by omega⟩) else v (ix4 0 0 r ⟨d.val - 128, by omega⟩) := by
  pointwise [fK, fn_main_v64]

/-- The word of minus infinity. -/
theorem neg_inf : (Ideal.ofBits .f32 0xFF800000#32 : EReal) = ⊥ := by
  simp [Ideal.ofBits, Ideal.ieee]

theorem mask_at (r s : Fin 2048) : mask (F := Ideal) (ix2 r s) = if s.val ≤ r.val then 0 else ⊥ := by
  pointwise [mask]
  rw [WordCmp.cmpi_sge_ofNat (by omega) (by omega)]
  by_cases l : s.val ≤ r.val
  · rw [if_pos l, decide_eq_true l]; rfl
  · rw [if_neg l, decide_eq_false l]
    exact neg_inf

theorem scores_at (q k : S1x16x2048x192.Idx → EReal) (h : Fin 16) (r s : Fin 2048) :
    scores (F := Ideal) q k (ix4 0 h r s) = (∑ d : Fin 192, q (ix4 0 h r d) * k (ix4 0 h s d)) * Spec.scl + (if s.val ≤ r.val then 0 else ⊥) := by
  rw [← mask_at]
  generalize hm : mask (F := Ideal) = mk
  pointwise [scores, hm]

/-- A running maximum is above every entry, and below `⊤` if all are. -/
theorem fold_max_bounds {ι : Type*} (b : EReal) (f : ι → EReal) (S : Finset ι) :
    (∀ x ∈ S, f x ≤ S.fold (FloatOps.maximumf (F := Ideal) (φ := .f32)) b f)
      ∧ (b < ⊤ → (∀ x, f x < ⊤) → S.fold (FloatOps.maximumf (F := Ideal) (φ := .f32)) b f < ⊤) := by
  classical
  induction S using Finset.induction_on with
  | empty => exact ⟨fun x hx => absurd hx (Finset.notMem_empty x), fun hb _ => by rw [Finset.fold_empty]; exact hb⟩
  | insert a S ha ih =>
    rw [Finset.fold_insert ha]
    refine ⟨fun x hx => ?_, fun hb hf => max_lt (hf a) (ih.2 hb hf)⟩
    rcases Finset.mem_insert.mp hx with rfl | hx
    · exact le_max_left _ _
    · exact (ih.1 x hx).trans (le_max_right _ _)

/-- The same of a maximum over an array's last axis, one more number taken with it. -/
theorem top_bounds {n0 n1 n2 n3 : ℕ} (x : (⟨4, ![n0, n1, n2, n3]⟩ : Shape).Idx → EReal) (y : (⟨3, ![n0, n1, n2]⟩ : Shape).Idx → EReal)
    (init : S_.Idx → EReal) (hi : ∀ i, init i < ⊤) (hr : (⟨4, ![n0, n1, n2, n3]⟩ : Shape).ReducesTo [3] ⟨3, ![n0, n1, n2]⟩) (hu : 0 < S_.numel)
    (i : Fin n0) (j : Fin n1) (k : Fin n2) (hy : y (ix3 i j k) < ⊤) :
    (∀ l, x (ix4 i j k l) ≤ maximumf (F := Ideal) (φ := .f32) y (Host.reduce (FloatOps.maximumf (F := Ideal) (φ := .f32)) x init hr hu) (ix3 i j k))
      ∧ ((∀ l, x (ix4 i j k l) < ⊤) → maximumf (F := Ideal) (φ := .f32) y (Host.reduce (FloatOps.maximumf (F := Ideal) (φ := .f32)) x init hr hu) (ix3 i j k) < ⊤) := by
  have e : Host.reduce (FloatOps.maximumf (F := Ideal) (φ := .f32)) x init hr hu (ix3 i j k)
      = Finset.univ.fold (FloatOps.maximumf (F := Ideal) (φ := .f32)) (init (Shape.Idx.first hu)) fun l : Fin n3 => x (ix4 i j k l) := by
    rw [Host.reduce_eq_fold, Shape.ReducesTo.fold_fiber_r4_a3]
    rfl
  obtain ⟨h1, h2⟩ := fold_max_bounds (init (Shape.Idx.first hu)) (fun l => x (ix4 i j k l)) Finset.univ
  rw [← e] at h1 h2
  exact ⟨fun l => (h1 l (Finset.mem_univ l)).trans (le_max_right _ _), fun hs => max_lt hy (h2 (hi _) hs)⟩

/-- The largest score is no less than any, and below `⊤` if all are. -/
theorem tops_bounds (s : S1x16x2048x2048.Idx → EReal) (h : Fin 16) (r : Fin 2048) :
    (∀ k, s (ix4 0 h r k) ≤ tops (F := Ideal) s (ix3 0 h r)) ∧ ((∀ k, s (ix4 0 h r k) < ⊤) → tops (F := Ideal) s (ix3 0 h r) < ⊤) := by
  have hb : (Ideal.ofBits .f32 0xFF800000#32 : EReal) < ⊤ := by rw [neg_inf]; exact bot_lt_top
  unfold tops
  exact top_bounds s _ _ (fun _ => hb) _ _ 0 h r hb

theorem exps_at (s : S1x16x2048x2048.Idx → EReal) (M : S1x16x2048.Idx → EReal) (h : Fin 16) (r k : Fin 2048) :
    exps (F := Ideal) s M (ix4 0 h r k) = Ideal.exp (s (ix4 0 h r k) - M (ix3 0 h r)) := by
  pointwise [exps]

theorem probs_at (p : S1x16x2048x2048.Idx → EReal) (h : Fin 16) (r k : Fin 2048) :
    probs (F := Ideal) p (ix4 0 h r k) = Ideal.div (p (ix4 0 h r k)) (∑ s : Fin 2048, p (ix4 0 h r s)) := by
  pointwise [probs]

theorem outs_at (k : S1x16x2048x256.Idx → EReal) (p : S1x16x2048x2048.Idx → EReal) (wo : S2048x2048.Idx → EReal) (r n : Fin 2048) :
    outs (F := Ideal) k p wo (ix3 0 r n) = ∑ x : Fin 2048,
      (∑ s : Fin 2048, k (ix4 0 ⟨x.val / 128, by omega⟩ s ⟨128 + x.val % 128, by omega⟩) * p (ix4 0 ⟨x.val / 128, by omega⟩ r s)) * wo (ix2 n x) := by
  pointwise [outs]

end Cert.ReferenceIdeal.Value

end
-- ==== Proof.RefEntry.lean ====
module

public import proofs.«01_k».proof.Proof.RefValue
public import proofs.«01_k».proof.Proof.Layer

/-! The reference's result on extended reals is the layer in the reference's form. -/

@[expose] public section

set_option maxRecDepth 16384

noncomputable section

namespace Cert.ReferenceIdeal.Value

open Cert.ReferenceIdeal Cert.Spec
open Idealize.ShloMosaic

variable (a0 : S1x2048x2048.Idx → EReal) (a1 a2 : S1x2048x64.Idx → EReal) (a3 : S1536x2048.Idx → EReal) (a4 : S1536.Idx → EReal)
    (a5 : S3072x1536.Idx → EReal) (a6 : S576x2048.Idx → EReal) (a7 : S512.Idx → EReal) (a8 : S4096x512.Idx → EReal) (a9 : S2048x2048.Idx → EReal)

/-- The queries before the heads are parted, and the keys and values. -/
theorem q_at (r : Fin 2048) (j : Fin 3072) :
    bQ (F := Ideal) (aQ (F := Ideal) a0 a3) a4 a5 (ix3 0 r j) = (Args.of a0 a1 a2 a3 a4 a5 a6 a7 a8 a9).qv r j :=
  (congrFun (bQ_at (aQ (F := Ideal) a0 a3) a4 a5 r) j).trans (by rw [aQ_at]; rfl)

theorem kv_at (r : Fin 2048) (j : Fin 4096) :
    bK (F := Ideal) (cK (F := Ideal) (aK (F := Ideal) a0 a6)) a7 a8 (ix3 0 r j) = (Args.of a0 a1 a2 a3 a4 a5 a6 a7 a8 a9).kv r j := by
  refine (congrFun (bK_at (cK (F := Ideal) (aK (F := Ideal) a0 a6)) a7 a8 r) j).trans ?_
  have e : row3 (a := 2048) (b := 512) (cK (F := Ideal) (aK (F := Ideal) a0 a6)) r = lat (row3 (a := 2048) (b := 2048) a0 r) (mat (a := 576) (b := 2048) a6) := by
    funext n
    exact (cK_at _ r n).trans (congrFun (aK_at a0 a6 r) _)
  rw [e]
  rfl

theorem pe_at (r : Fin 2048) (d : Fin 64) :
    rK (F := Ideal) (aK (F := Ideal) a0 a6) a1 a2 (ix4 0 0 r d) = (Args.of a0 a1 a2 a3 a4 a5 a6 a7 a8 a9).pe r d := by
  refine (rK_at _ a1 a2 r d).trans ?_
  have e : (fun n : Fin 64 => aK (F := Ideal) a0 a6 (ix3 0 r ⟨n.val + 512, by omega⟩))
      = fun n => lin (row3 (a := 2048) (b := 2048) a0 r) (mat (a := 576) (b := 2048) a6) ⟨n.val + 512, by omega⟩ :=
    funext fun n => congrFun (aK_at a0 a6 r) _
  rw [e]
  rfl

/-- A head's query and key. -/
theorem query_at (h : Fin 16) (r : Fin 2048) (d : Fin 192) :
    fQ (F := Ideal) (hQ (F := Ideal) (bQ (F := Ideal) (aQ (F := Ideal) a0 a3) a4 a5)) (rQ (F := Ideal) (hQ (F := Ideal) (bQ (F := Ideal) (aQ (F := Ideal) a0 a3) a4 a5)) a1 a2) (ix4 0 h r d)
      = let A := Args.of a0 a1 a2 a3 a4 a5 a6 a7 a8 a9; qraw (A.qv r) (A.co r) (A.si r) h d := by
  rw [fQ_at]
  unfold qraw
  by_cases hd : d.val < 128
  · rw [dif_pos hd, dif_pos hd, hQ_at, q_at a0 a1 a2 a3 a4 a5 a6 a7 a8 a9]
  · rw [dif_neg hd, dif_neg hd, rQ_at]
    have e : (fun n : Fin 64 => hQ (F := Ideal) (bQ (F := Ideal) (aQ (F := Ideal) a0 a3) a4 a5) (ix4 0 h r ⟨128 + n.val, by omega⟩))
        = fun n => (Args.of a0 a1 a2 a3 a4 a5 a6 a7 a8 a9).qv r ⟨192 * h.val + 128 + n.val, by omega⟩ := funext fun n => by
      rw [hQ_at, q_at a0 a1 a2 a3 a4 a5 a6 a7 a8 a9]
      exact congrArg _ (Fin.ext (by show _ + (_ + _) = _ + _ + _; omega))
    rw [e]
    rfl

theorem key_at (h : Fin 16) (r : Fin 2048) (d : Fin 192) :
    fK (F := Ideal) (hK (F := Ideal) (bK (F := Ideal) (cK (F := Ideal) (aK (F := Ideal) a0 a6)) a7 a8)) (rK (F := Ideal) (aK (F := Ideal) a0 a6) a1 a2) (ix4 0 h r d)
      = let A := Args.of a0 a1 a2 a3 a4 a5 a6 a7 a8 a9; kent (A.kv r) (A.pe r) h d := by
  rw [fK_at]
  unfold kent
  by_cases hd : d.val < 128
  · rw [dif_pos hd, dif_pos hd, hK_at, kv_at a0 a1 a2 a3 a4 a5 a6 a7 a8 a9]
  · rw [dif_neg hd, dif_neg hd, pe_at a0 a1 a2 a3 a4 a5 a6 a7 a8 a9]

/-- The scores, the rows' own tops taken off afterwards. -/
theorem score_at (h : Fin 16) (r s : Fin 2048) :
    scores (F := Ideal) (fQ (F := Ideal) (hQ (F := Ideal) (bQ (F := Ideal) (aQ (F := Ideal) a0 a3) a4 a5)) (rQ (F := Ideal) (hQ (F := Ideal) (bQ (F := Ideal) (aQ (F := Ideal) a0 a3) a4 a5)) a1 a2))
        (fK (F := Ideal) (hK (F := Ideal) (bK (F := Ideal) (cK (F := Ideal) (aK (F := Ideal) a0 a6)) a7 a8)) (rK (F := Ideal) (aK (F := Ideal) a0 a6) a1 a2)) (ix4 0 h r s)
      = (Args.of a0 a1 a2 a3 a4 a5 a6 a7 a8 a9).score h r s + (if s.val ≤ r.val then 0 else ⊥) := by
  refine (scores_at _ _ h r s).trans (congrArg (· * scl + _) (Finset.sum_congr rfl fun d _ => ?_))
  exact congrArg₂ (· * ·) (query_at a0 a1 a2 a3 a4 a5 a6 a7 a8 a9 h r d) (key_at a0 a1 a2 a3 a4 a5 a6 a7 a8 a9 h s d)

/-- Where the arguments are real the result is the layer, some real numbers taken off the scores. -/
theorem whole_at (H : (Args.of a0 a1 a2 a3 a4 a5 a6 a7 a8 a9).Real) (r n : Fin 2048) :
    whole (F := Ideal) a0 a1 a2 a3 a4 a5 a6 a7 a8 a9 (ix3 0 r n) = (Args.of a0 a1 a2 a3 a4 a5 a6 a7 a8 a9).outK r n := by
  unfold whole
  have hs := score_at a0 a1 a2 a3 a4 a5 a6 a7 a8 a9
  have hv : ∀ (h : Fin 16) (s : Fin 2048) (e : Fin 128), hK (F := Ideal) (bK (F := Ideal) (cK (F := Ideal) (aK (F := Ideal) a0 a6)) a7 a8) (ix4 0 h s ⟨128 + e.val, by omega⟩)
      = (Args.of a0 a1 a2 a3 a4 a5 a6 a7 a8 a9).val h s e := fun h s e => by
    rw [hK_at, kv_at a0 a1 a2 a3 a4 a5 a6 a7 a8 a9]
    exact congrArg _ (Fin.ext (by show _ + (_ + _) = _ + _ + _; omega))
  generalize scores (F := Ideal) _ _ = S at hs ⊢
  generalize hK (F := Ideal) _ = V at hv ⊢
  have hM : ∀ h r, IsReal (tops (F := Ideal) S (ix3 0 h r)) := fun h r => by
    have t := tops_bounds S h r
    simp only [hs] at t
    exact Args.real_top H t.1 t.2
  rw [Args.outK_eq H (fun h r => tops (F := Ideal) S (ix3 0 h r)) hM]
  refine (outs_at V _ a9 r n).trans (Finset.sum_congr rfl fun x _ => congrArg (· * a9 (ix2 n x)) (Finset.sum_congr rfl fun s _ => ?_))
  refine congrArg₂ (· * ·) (hv (Args.hd x) s (Args.en x)) ((probs_at _ _ r s).trans ?_)
  have he : ∀ k, exps (F := Ideal) S (tops (F := Ideal) S) (ix4 0 (Args.hd x) r k)
      = Ideal.exp ((Args.of a0 a1 a2 a3 a4 a5 a6 a7 a8 a9).score (Args.hd x) r k + (if k.val ≤ r.val then 0 else ⊥) - tops (F := Ideal) S (ix3 0 (Args.hd x) r)) := fun k =>
    (exps_at S _ _ r k).trans (by rw [hs])
  exact congrArg₂ Ideal.div (he s) (Finset.sum_congr rfl fun k _ => he k)

end Cert.ReferenceIdeal.Value

end
-- ==== Proof.Algebraic.lean ====
module

public import proofs.«01_k».proof.Defs
public import proofs.«01_k».proof.Proof.Finite
public import proofs.«01_k».proof.Proof.KernelEntry
public import proofs.«01_k».proof.Proof.RefEntry
public import proofs.«01_k».proof.Proof.Gen.ReferenceIdeal

/-! From real arguments the idealized kernel and the reference end with the same array. -/

@[expose] public section

set_option maxRecDepth 16384

noncomputable section

namespace Cert.Proof

open Idealize.ShloMosaic Idealize.ShloMosaic.TcCoe Idealize.SL Idealize.SL.Sem

/-- The precondition makes the layer's arguments real. -/
theorem real_of_finite (m : (ℓ : Loc Cert.KernelIdeal.nD Cert.KernelIdeal.τ Cert.KernelIdeal.sig) → Buf (Elt Ideal) ℓ)
    (hp : Cert.Pre_KernelIdeal_finite (hPre_finite := Cert.Pre_finite.facts) m) (c : Dev Cert.KernelIdeal.nD) : (Cert.KernelIdeal.Run.args m c).Real := by
  letI := Cert.Pre_finite.facts
  obtain ⟨h0, h1, h2, h3, h4, h5, h6, h7, h8⟩ := Cert.Pre_finite.real_args _ _ _ _ _ _ _ _ _ _ (hp c)
  exact ⟨fun r i => h0 _, fun r i => h1 _, fun r i => h2 _, fun r i => h3 _, fun i => h4 _, fun r i => h5 _, fun r i => h6 _, fun i => h7 _, fun r i => h8 _⟩

/-- From arguments that are real the two results are the same array. -/
theorem results_eq (m : (ℓ : Loc Cert.KernelIdeal.nD Cert.KernelIdeal.τ Cert.KernelIdeal.sig) → Buf (Elt Ideal) ℓ) (c : Dev Cert.KernelIdeal.nD)
    (H : (Cert.KernelIdeal.Run.args m c).Real) :
    Cert.ReferenceIdeal.Value.whole (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      = (Cert.KernelIdeal.Gen.V4 m (Cert.KernelIdeal.Run.outs m) c Cert.KernelIdeal.main_v17 : (⟨3, ![1, 2048, 2048]⟩ : Shape).Idx → EReal) := by
  funext y
  obtain ⟨b, r, n, rfl⟩ : ∃ (b : Fin 1) (r n : Fin 2048), y = ix3 b r n := ⟨y 0, y 1, y 2, eq_ix3 y⟩
  obtain rfl : b = 0 := Subsingleton.elim _ _
  exact (Cert.ReferenceIdeal.Value.whole_at _ _ _ _ _ _ _ _ _ _ H r n).trans (Cert.KernelIdeal.Run.result_at m c H r n).symm

/-- Every execution of the idealized kernel and of the reference from the same real arguments ends with the same result. -/
theorem algebraic : Cert.algebraic_KernelIdeal_ReferenceIdeal_pre_finite (hPre_finite := Cert.Pre_finite.facts) := fun m g m' g' hp ha =>
  ⟨fun c => Cert.KernelIdeal.Gen.V4 m (Cert.KernelIdeal.Run.outs m) c Cert.KernelIdeal.main_v17,
    (θ_run Cert.KernelIdeal.defs _ _).mono (fun r h c => ⟨(h.1 c).2, (h.1 c).1⟩) (Cert.KernelIdeal.Run.run (F := Ideal) m g),
    (θ_run Cert.ReferenceIdeal.defs _ _).mono (fun r h c => ⟨(h c).1.trans ((Cert.ReferenceIdeal.Value.res_eq (F := Ideal) m' c).trans (by
      obtain ⟨e0, e1, e2, e3, e4, e5, e6, e7, e8, e9⟩ := ha c
      rw [e0, e1, e2, e3, e4, e5, e6, e7, e8, e9]
      exact results_eq m c (real_of_finite m hp c))), (h c).2⟩)
      (Cert.ReferenceIdeal.Value.run (F := Ideal) m' g')⟩

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.facts,
    frame_kernel, frame_ideal, (fun m g _ => frame_ideal m g trivial), frame_reference, (fun m g _ => frame_reference m g trivial), preserves, algebraic⟩

end Cert.Proof

end
